-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v8)) (v1 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_v39) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x8x768 : Shape := ⟨3, ![8, 8, 768]⟩
abbrev S64x768 : Shape := ⟨2, ![64, 768]⟩
abbrev S64x768x768 : Shape := ⟨3, ![64, 768, 768]⟩
abbrev S128x1 : Shape := ⟨2, ![128, 1]⟩
abbrev S64x1 : Shape := ⟨2, ![64, 1]⟩
abbrev S1x1 : Shape := ⟨2, ![1, 1]⟩
abbrev S64x64 : Shape := ⟨2, ![64, 64]⟩
abbrev S64 : Shape := ⟨1, ![64]⟩
abbrev S1x64 : Shape := ⟨2, ![1, 64]⟩
abbrev S1x1x64 : Shape := ⟨3, ![1, 1, 64]⟩
abbrev S1 : Shape := ⟨1, ![1]⟩
abbrev S1x1x1 : Shape := ⟨3, ![1, 1, 1]⟩
abbrev S128 : Shape := ⟨1, ![128]⟩
abbrev S80 : Shape := ⟨1, ![80]⟩
abbrev S_ : Shape := ⟨0, ![]⟩
abbrev S16 : Shape := ⟨1, ![16]⟩
abbrev S1x768x768 : Shape := ⟨3, ![1, 768, 768]⟩
abbrev S768x768 : Shape := ⟨2, ![768, 768]⟩

abbrev nBuf : Table → Nat
  | .hbm => 18
  | .local .tc .vmem => 20
  | .local .tc .smem => 2
  | .local .scVector .vmem => 3
  | _ => 0

abbrev bufTy : (tb : Table) → Fin (nBuf tb) → BufTy
  | .hbm, ⟨0, _⟩ => ⟨S8x8x768, .f32⟩
  | .hbm, ⟨1, _⟩ => ⟨S64x768, .f32⟩
  | .hbm, ⟨2, _⟩ => ⟨S64x768x768, .f32⟩
  | .hbm, ⟨3, _⟩ => ⟨S64x768x768, .f32⟩
  | .hbm, ⟨4, _⟩ => ⟨S64x768x768, .f32⟩
  | .hbm, ⟨5, _⟩ => ⟨S64x768, .f32⟩
  | .hbm, ⟨6, _⟩ => ⟨S128x1, .i32⟩
  | .hbm, ⟨7, _⟩ => ⟨S64x1, .i32⟩
  | .hbm, ⟨8, _⟩ => ⟨S64x1, .i32⟩
  | .hbm, ⟨9, _⟩ => ⟨S64x1, .f32⟩
  | .hbm, ⟨10, _⟩ => ⟨S64x1, .f32⟩
  | .hbm, ⟨11, _⟩ => ⟨S1x1, .f32⟩
  | .hbm, ⟨12, _⟩ => ⟨S128, .i32⟩
  | .hbm, ⟨13, _⟩ => ⟨S80, .i32⟩
  | .hbm, ⟨14, _⟩ => ⟨S1, .i32⟩
  | .hbm, ⟨15, _⟩ => ⟨S64x768, .f32⟩
  | .hbm, ⟨16, _⟩ => ⟨S8x8x768, .f32⟩
  | .hbm, ⟨17, _⟩ => ⟨S_, .f32⟩
  | .local .tc .vmem, ⟨0, _⟩ => ⟨S64x768, .f32⟩
  | .local .tc .vmem, ⟨1, _⟩ => ⟨S64x768, .f32⟩
  | .local .tc .vmem, ⟨2, _⟩ => ⟨S128x1, .i32⟩
  | .local .tc .vmem, ⟨3, _⟩ => ⟨S64x1, .i32⟩
  | .local .tc .vmem, ⟨4, _⟩ => ⟨S64x1, .i32⟩
  | .local .tc .vmem, ⟨5, _⟩ => ⟨S64x1, .f32⟩
  | .local .tc .vmem, ⟨6, _⟩ => ⟨S64x1, .f32⟩
  | .local .tc .vmem, ⟨7, _⟩ => ⟨S1x1, .f32⟩
  | .local .tc .vmem, ⟨8, _⟩ => ⟨S64x768, .f32⟩
  | .local .tc .vmem, ⟨9, _⟩ => ⟨S64x1, .i32⟩
  | .local .tc .vmem, ⟨10, _⟩ => ⟨S64x1, .i32⟩
  | .local .tc .vmem, ⟨11, _⟩ => ⟨S64x1, .f32⟩
  | .local .tc .vmem, ⟨12, _⟩ => ⟨S64x1, .f32⟩
  | .local .tc .vmem, ⟨13, _⟩ => ⟨S1x768x768, .f32⟩
  | .local .tc .vmem, ⟨14, _⟩ => ⟨S1x768x768, .f32⟩
  | .local .tc .vmem, ⟨15, _⟩ => ⟨S1x768x768, .f32⟩
  | .local .tc .vmem, ⟨16, _⟩ => ⟨S1x768x768, .f32⟩
  | .local .tc .vmem, ⟨17, _⟩ => ⟨S1x768x768, .f32⟩
  | .local .tc .vmem, ⟨18, _⟩ => ⟨S1x768x768, .f32⟩
  | .local .tc .vmem, ⟨19, _⟩ => ⟨S64x768, .f32⟩
  | .local .tc .smem, ⟨0, _⟩ => ⟨S_, .i32⟩
  | .local .tc .smem, ⟨1, _⟩ => ⟨S64, .i32⟩
  | .local .scVector .vmem, ⟨0, _⟩ => ⟨S128, .i32⟩
  | .local .scVector .vmem, ⟨1, _⟩ => ⟨S64, .i32⟩
  | .local .scVector .vmem, ⟨2, _⟩ => ⟨S80, .i32⟩
  | _, _ => ⟨S8x8x768, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => false
  | ⟨9, _⟩ => false
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTables nBuf rfl bufTy 4 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_v1_4 : Ref sig .tc := ⟨.hbm, 10, rfl⟩
abbrev main_v1_5 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v5 : Ref sig .tc := ⟨.smem, 0, rfl⟩
abbrev main_v6 : Ref sig .tc := ⟨.smem, 1, rfl⟩
abbrev main_v2_scv : Ref sig .scVector := ⟨.hbm, 12, rfl⟩
abbrev main_v3_scv : Ref sig .scVector := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc2_stg0_0 : Ref sig .tc := ⟨.vmem, 8, rfl⟩
abbrev cc2_stg1_0 : Ref sig .tc := ⟨.vmem, 9, rfl⟩
abbrev cc2_stg2_0 : Ref sig .tc := ⟨.vmem, 10, rfl⟩
abbrev cc2_stg3_0 : Ref sig .tc := ⟨.vmem, 11, rfl⟩
abbrev cc2_stg4_0 : Ref sig .tc := ⟨.vmem, 12, rfl⟩
abbrev cc2_stg5_0 : Ref sig .tc := ⟨.vmem, 13, rfl⟩
abbrev cc2_stg5_1 : Ref sig .tc := ⟨.vmem, 14, rfl⟩
abbrev cc2_stg6_0 : Ref sig .tc := ⟨.vmem, 15, rfl⟩
abbrev cc2_stg6_1 : Ref sig .tc := ⟨.vmem, 16, rfl⟩
abbrev cc2_stg7_0 : Ref sig .tc := ⟨.vmem, 17, rfl⟩
abbrev cc2_stg7_1 : Ref sig .tc := ⟨.vmem, 18, rfl⟩
abbrev cc2_stg8_0 : Ref sig .tc := ⟨.vmem, 19, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc2_sem0_0 : DmaSem sig := 10
abbrev cc2_sem1_0 : DmaSem sig := 11
abbrev cc2_sem2_0 : DmaSem sig := 12
abbrev cc2_sem3_0 : DmaSem sig := 13
abbrev cc2_sem4_0 : DmaSem sig := 14
abbrev cc2_sem5_0 : DmaSem sig := 15
abbrev cc2_sem5_1 : DmaSem sig := 16
abbrev cc2_sem6_0 : DmaSem sig := 17
abbrev cc2_sem6_1 : DmaSem sig := 18
abbrev cc2_sem7_0 : DmaSem sig := 19
abbrev cc2_sem7_1 : DmaSem sig := 20
abbrev cc2_sem8_0 : DmaSem sig := 21
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := .none

abbrev stage0_0 : Fin 1 → Memref sig .tc .vmem S64x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x1 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64x1 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S64x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S64x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev grid1 : Pipeline.Grid := ⟨2, ![2, 16], ![false, false]⟩

def k1_cond1 (i : grid1.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def k1_chk1 (i : grid1.Coords) (v15 : IVec S16 32) : Prop :=
  (∀ (k1_h1 : k1_cond1 i = 1#1), ∀ a x, ((![v15] : Fin 1 → IVec S16 32) a x).toNat < S64.size a)
theorem k1_idx1_inb : ∀ (i : grid1.Coords) (v15 : IVec S16 32) (k1_hw1 : k1_chk1 i v15), ∀ (k1_h1 : k1_cond1 i = 1#1), ∀ a x, ((![v15] : Fin 1 → IVec S16 32) a x).toNat < S64.size a := fun i v15 k1_hw1 k1_h1 => k1_hw1 k1_h1

def k1_chk2 (i : grid1.Coords) (v22 : IVec S16 32) : Prop :=
  (∀ (k1_h1 : k1_cond1 i = 1#1), ∀ a x, ((![v22] : Fin 1 → IVec S16 32) a x).toNat < S64.size a)
theorem k1_idx2_inb : ∀ (i : grid1.Coords) (v22 : IVec S16 32) (k1_hw2 : k1_chk2 i v22), ∀ (k1_h1 : k1_cond1 i = 1#1), ∀ a x, ((![v22] : Fin 1 → IVec S16 32) a x).toNat < S64.size a := fun i v22 k1_hw2 k1_h1 => k1_hw2 k1_h1

def k1_chk3 (i : grid1.Coords) (v29 : IVec S16 32) : Prop :=
  (∀ (k1_h1 : k1_cond1 i = 1#1), ∀ a x, ((![v29] : Fin 1 → IVec S16 32) a x).toNat < S64.size a)
theorem k1_idx3_inb : ∀ (i : grid1.Coords) (v29 : IVec S16 32) (k1_hw3 : k1_chk3 i v29), ∀ (k1_h1 : k1_cond1 i = 1#1), ∀ a x, ((![v29] : Fin 1 → IVec S16 32) a x).toNat < S64.size a := fun i v29 k1_hw3 k1_h1 => k1_hw3 k1_h1

def k1_chk4 (i : grid1.Coords) (v36 : IVec S16 32) : Prop :=
  (∀ (k1_h1 : k1_cond1 i = 1#1), ∀ a x, ((![v36] : Fin 1 → IVec S16 32) a x).toNat < S64.size a)
theorem k1_idx4_inb : ∀ (i : grid1.Coords) (v36 : IVec S16 32) (k1_hw4 : k1_chk4 i v36), ∀ (k1_h1 : k1_cond1 i = 1#1), ∀ a x, ((![v36] : Fin 1 → IVec S16 32) a x).toNat < S64.size a := fun i v36 k1_hw4 k1_h1 => k1_hw4 k1_h1

def k1_chk5 (i : grid1.Coords) (v43 : IVec S16 32) : Prop :=
  (∀ (k1_h1 : k1_cond1 i = 1#1), ∀ a x, ((![v43] : Fin 1 → IVec S16 32) a x).toNat < S64.size a)
theorem k1_idx5_inb : ∀ (i : grid1.Coords) (v43 : IVec S16 32) (k1_hw5 : k1_chk5 i v43), ∀ (k1_h1 : k1_cond1 i = 1#1), ∀ a x, ((![v43] : Fin 1 → IVec S16 32) a x).toNat < S64.size a := fun i v43 k1_hw5 k1_h1 => k1_hw5 k1_h1

def k1_chk6 (i : grid1.Coords) (v50 : IVec S16 32) : Prop :=
  (∀ (k1_h1 : k1_cond1 i = 1#1), ∀ a x, ((![v50] : Fin 1 → IVec S16 32) a x).toNat < S64.size a)
theorem k1_idx6_inb : ∀ (i : grid1.Coords) (v50 : IVec S16 32) (k1_hw6 : k1_chk6 i v50), ∀ (k1_h1 : k1_cond1 i = 1#1), ∀ a x, ((![v50] : Fin 1 → IVec S16 32) a x).toNat < S64.size a := fun i v50 k1_hw6 k1_h1 => k1_hw6 k1_h1

def k1_chk7 (i : grid1.Coords) (v57 : IVec S16 32) : Prop :=
  (∀ (k1_h1 : k1_cond1 i = 1#1), ∀ a x, ((![v57] : Fin 1 → IVec S16 32) a x).toNat < S64.size a)
theorem k1_idx7_inb : ∀ (i : grid1.Coords) (v57 : IVec S16 32) (k1_hw7 : k1_chk7 i v57), ∀ (k1_h1 : k1_cond1 i = 1#1), ∀ a x, ((![v57] : Fin 1 → IVec S16 32) a x).toNat < S64.size a := fun i v57 k1_hw7 k1_h1 => k1_hw7 k1_h1

def k1_chk8 (i : grid1.Coords) (v64 : IVec S16 32) : Prop :=
  (∀ (k1_h1 : k1_cond1 i = 1#1), ∀ a x, ((![v64] : Fin 1 → IVec S16 32) a x).toNat < S64.size a)
theorem k1_idx8_inb : ∀ (i : grid1.Coords) (v64 : IVec S16 32) (k1_hw8 : k1_chk8 i v64), ∀ (k1_h1 : k1_cond1 i = 1#1), ∀ a x, ((![v64] : Fin 1 → IVec S16 32) a x).toNat < S64.size a := fun i v64 k1_hw8 k1_h1 => k1_hw8 k1_h1

def k1_chk9 (i : grid1.Coords) (v73 : IVec S16 32) : Prop :=
  (∀ (k1_h1 : k1_cond1 i = 1#1), ∀ a x, ((![v73] : Fin 1 → IVec S16 32) a x).toNat < S80.size a)
theorem k1_idx9_inb : ∀ (i : grid1.Coords) (v73 : IVec S16 32) (k1_hw9 : k1_chk9 i v73), ∀ (k1_h1 : k1_cond1 i = 1#1), ∀ a x, ((![v73] : Fin 1 → IVec S16 32) a x).toNat < S80.size a := fun i v73 k1_hw9 k1_h1 => k1_hw9 k1_h1

def k1_chk10 (i : grid1.Coords) (v96 : IVec S16 32) : Prop :=
  (∀ (k1_h1 : k1_cond1 i = 1#1), ∀ a x, ((![v96] : Fin 1 → IVec S16 32) a x).toNat < S80.size a)
theorem k1_idx10_inb : ∀ (i : grid1.Coords) (v96 : IVec S16 32) (k1_hw10 : k1_chk10 i v96), ∀ (k1_h1 : k1_cond1 i = 1#1), ∀ a x, ((![v96] : Fin 1 → IVec S16 32) a x).toNat < S80.size a := fun i v96 k1_hw10 k1_h1 => k1_hw10 k1_h1

def k1_chk11 (i : grid1.Coords) (v119 : IVec S16 32) : Prop :=
  (∀ (k1_h1 : k1_cond1 i = 1#1), ∀ a x, ((![v119] : Fin 1 → IVec S16 32) a x).toNat < S80.size a)
theorem k1_idx11_inb : ∀ (i : grid1.Coords) (v119 : IVec S16 32) (k1_hw11 : k1_chk11 i v119), ∀ (k1_h1 : k1_cond1 i = 1#1), ∀ a x, ((![v119] : Fin 1 → IVec S16 32) a x).toNat < S80.size a := fun i v119 k1_hw11 k1_h1 => k1_hw11 k1_h1

def k1_chk12 (i : grid1.Coords) (v142 : IVec S16 32) : Prop :=
  (∀ (k1_h1 : k1_cond1 i = 1#1), ∀ a x, ((![v142] : Fin 1 → IVec S16 32) a x).toNat < S80.size a)
theorem k1_idx12_inb : ∀ (i : grid1.Coords) (v142 : IVec S16 32) (k1_hw12 : k1_chk12 i v142), ∀ (k1_h1 : k1_cond1 i = 1#1), ∀ a x, ((![v142] : Fin 1 → IVec S16 32) a x).toNat < S80.size a := fun i v142 k1_hw12 k1_h1 => k1_hw12 k1_h1
abbrev grid2 : Pipeline.Grid := ⟨1, ![0], ![true]⟩

abbrev pre2 : Pipeline.Prefetch sig := ⟨2, ![main_v5.idx, main_v6.idx], fun | 0 => main_v5.names | 1 => main_v6.names | ⟨_ + 2, h⟩ => absurd h (Nat.not_lt.2 (Nat.le_add_left _ _)), fun | 0 => rfl | 1 => rfl | ⟨_ + 2, h⟩ => absurd h (Nat.not_lt.2 (Nat.le_add_left _ _))⟩

def dynb2 (pf : pre2.Contents (Elt F)) : grid2.Bounds := ![(pf 0 fun a => a.elim0).toNat]

def k2_off1 (b : grid2.Bounds) (i : (grid2.at b).Coords) : Fin 1 → Nat :=
  let arg0 : BitVec 32 := BitVec.ofNat 32 (i 0).val
  let v0 : Index := Scalar.indexCast arg0
  ![v0.toNat]

def k2_off2 (arg0 : BitVec 32) : Fin 1 → Nat :=
  let v3 : Index := Scalar.indexCast arg0
  ![v3.toNat]

def k2_chk1 (arg0 : BitVec 32) : Prop :=
  (∀ a, (k2_off2 arg0) a + S1.size a ≤ S64.size a)
theorem k2_off2_inb : ∀ (arg0 : BitVec 32) (k2_hw1 : k2_chk1 arg0), ∀ a, (k2_off2 arg0) a + S1.size a ≤ S64.size a := fun arg0 k2_hw1 => k2_hw1

def cc2_transform_0 (b : grid2.Bounds) (i : (grid2.at b).Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (b : grid2.Bounds) (i : (grid2.at b).Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (b : grid2.Bounds) (i : (grid2.at b).Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (b : grid2.Bounds) (i : (grid2.at b).Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (b : grid2.Bounds) (i : (grid2.at b).Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (pf : pre2.Contents (Elt F)) (b : grid2.Bounds) (i : (grid2.at b).Coords) : Fin 3 → Nat :=
  let arg0 : BitVec 32 := BitVec.ofNat 32 (i 0).val
  let v0 : Index := Scalar.indexCast arg0
  let v1 : BitVec 32 := pf.atD 1 ![v0.toNat]
  let c0_i32 : BitVec 32 := 0#32
  let c0_i32_0 : BitVec 32 := 0#32
  let c0_i32_1 : BitVec 32 := 0#32
  ![v1.toNat, c0_i32.toNat, c0_i32_0.toNat]

def cc2_transform_6 (pf : pre2.Contents (Elt F)) (b : grid2.Bounds) (i : (grid2.at b).Coords) : Fin 3 → Nat :=
  let arg0 : BitVec 32 := BitVec.ofNat 32 (i 0).val
  let v0 : Index := Scalar.indexCast arg0
  let v1 : BitVec 32 := pf.atD 1 ![v0.toNat]
  let c0_i32 : BitVec 32 := 0#32
  let c0_i32_0 : BitVec 32 := 0#32
  let c0_i32_1 : BitVec 32 := 0#32
  ![v1.toNat, c0_i32.toNat, c0_i32_0.toNat]

def cc2_transform_7 (pf : pre2.Contents (Elt F)) (b : grid2.Bounds) (i : (grid2.at b).Coords) : Fin 3 → Nat :=
  let arg0 : BitVec 32 := BitVec.ofNat 32 (i 0).val
  let v0 : Index := Scalar.indexCast arg0
  let v1 : BitVec 32 := pf.atD 1 ![v0.toNat]
  let c0_i32 : BitVec 32 := 0#32
  let c0_i32_0 : BitVec 32 := 0#32
  let c0_i32_1 : BitVec 32 := 0#32
  ![v1.toNat, c0_i32.toNat, c0_i32_0.toNat]

def cc2_transform_8 (b : grid2.Bounds) (i : (grid2.at b).Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S64x768 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S64x1 .i32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64x1 .i32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S1x768x768 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S1x768x768 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S1x768x768 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 1 → Memref sig .tc .vmem S64x768 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S8x8x768 : Shape := ⟨3, ![8, 8, 768]⟩
abbrev S64x768 : Shape := ⟨2, ![64, 768]⟩
abbrev S64x768x768 : Shape := ⟨3, ![64, 768, 768]⟩
abbrev S768x64 : Shape := ⟨2, ![768, 64]⟩
abbrev S64x64 : Shape := ⟨2, ![64, 64]⟩
abbrev S_ : Shape := ⟨0, ![]⟩
abbrev S64 : Shape := ⟨1, ![64]⟩
abbrev S64x1 : Shape := ⟨2, ![64, 1]⟩
abbrev S64x2 : Shape := ⟨2, ![64, 2]⟩
abbrev S64x2x1 : Shape := ⟨3, ![64, 2, 1]⟩
abbrev S1x1x64 : Shape := ⟨3, ![1, 1, 64]⟩
abbrev S64x2x64 : Shape := ⟨3, ![64, 2, 64]⟩
abbrev S64x64x768 : Shape := ⟨3, ![64, 64, 768]⟩
abbrev S64x768x64 : Shape := ⟨3, ![64, 768, 64]⟩
abbrev S1x64 : Shape := ⟨2, ![1, 64]⟩

abbrev nBuf : Space → Nat
  | .hbm => 75
  | .vmem => 0
  | .smem => 0
  | _ => 0

abbrev bufTy : (tb : Table) → Fin (tcTables nBuf tb) → BufTy
  | .hbm, ⟨0, _⟩ => ⟨S8x8x768, .f32⟩
  | .hbm, ⟨1, _⟩ => ⟨S64x768, .f32⟩
  | .hbm, ⟨2, _⟩ => ⟨S64x768x768, .f32⟩
  | .hbm, ⟨3, _⟩ => ⟨S64x768x768, .f32⟩
  | .hbm, ⟨4, _⟩ => ⟨S64x768x768, .f32⟩
  | .hbm, ⟨5, _⟩ => ⟨S64x768, .f32⟩
  | .hbm, ⟨6, _⟩ => ⟨S768x64, .f32⟩
  | .hbm, ⟨7, _⟩ => ⟨S64x64, .f32⟩
  | .hbm, ⟨8, _⟩ => ⟨S_, .f32⟩
  | .hbm, ⟨9, _⟩ => ⟨S64, .f32⟩
  | .hbm, ⟨10, _⟩ => ⟨S_, .f32⟩
  | .hbm, ⟨11, _⟩ => ⟨S64, .f32⟩
  | .hbm, ⟨12, _⟩ => ⟨S64, .f32⟩
  | .hbm, ⟨13, _⟩ => ⟨S64x1, .f32⟩
  | .hbm, ⟨14, _⟩ => ⟨S64x64, .f32⟩
  | .hbm, ⟨15, _⟩ => ⟨S64x64, .f32⟩
  | .hbm, ⟨16, _⟩ => ⟨S64x64, .f32⟩
  | .hbm, ⟨17, _⟩ => ⟨S_, .f32⟩
  | .hbm, ⟨18, _⟩ => ⟨S64, .f32⟩
  | .hbm, ⟨19, _⟩ => ⟨S64x1, .f32⟩
  | .hbm, ⟨20, _⟩ => ⟨S64x64, .f32⟩
  | .hbm, ⟨21, _⟩ => ⟨S64x64, .f32⟩
  | .hbm, ⟨22, _⟩ => ⟨S64x2, .f32⟩
  | .hbm, ⟨23, _⟩ => ⟨S64x2, .i32⟩
  | .hbm, ⟨24, _⟩ => ⟨S_, .f32⟩
  | .hbm, ⟨25, _⟩ => ⟨S64, .f32⟩
  | .hbm, ⟨26, _⟩ => ⟨S64x1, .f32⟩
  | .hbm, ⟨27, _⟩ => ⟨S64x2, .f32⟩
  | .hbm, ⟨28, _⟩ => ⟨S64x2, .f32⟩
  | .hbm, ⟨29, _⟩ => ⟨S64x2x1, .i32⟩
  | .hbm, ⟨30, _⟩ => ⟨S1x1x64, .i32⟩
  | .hbm, ⟨31, _⟩ => ⟨S64x2x64, .i32⟩
  | .hbm, ⟨32, _⟩ => ⟨S64x2x64, .i32⟩
  | .hbm, ⟨33, _⟩ => ⟨S64x2x64, .i1⟩
  | .hbm, ⟨34, _⟩ => ⟨S64x2x64, .f32⟩
  | .hbm, ⟨35, _⟩ => ⟨S64x64, .f32⟩
  | .hbm, ⟨36, _⟩ => ⟨S64x64x768, .f32⟩
  | .hbm, ⟨37, _⟩ => ⟨S64x64x768, .f32⟩
  | .hbm, ⟨38, _⟩ => ⟨S64x64x768, .f32⟩
  | .hbm, ⟨39, _⟩ => ⟨S64x64x768, .f32⟩
  | .hbm, ⟨40, _⟩ => ⟨S_, .f32⟩
  | .hbm, ⟨41, _⟩ => ⟨S64x64x768, .f32⟩
  | .hbm, ⟨42, _⟩ => ⟨S64x64x768, .f32⟩
  | .hbm, ⟨43, _⟩ => ⟨S_, .f32⟩
  | .hbm, ⟨44, _⟩ => ⟨S64x64x768, .f32⟩
  | .hbm, ⟨45, _⟩ => ⟨S64x64x768, .f32⟩
  | .hbm, ⟨46, _⟩ => ⟨S64x64x768, .f32⟩
  | .hbm, ⟨47, _⟩ => ⟨S64x64x768, .f32⟩
  | .hbm, ⟨48, _⟩ => ⟨S64x768x64, .f32⟩
  | .hbm, ⟨49, _⟩ => ⟨S64x64x768, .f32⟩
  | .hbm, ⟨50, _⟩ => ⟨S64x768, .f32⟩
  | .hbm, ⟨51, _⟩ => ⟨S8x8x768, .f32⟩
  | .hbm, ⟨52, _⟩ => ⟨S64x1, .i32⟩
  | .hbm, ⟨53, _⟩ => ⟨S64, .i32⟩
  | .hbm, ⟨54, _⟩ => ⟨S64x1, .i32⟩
  | .hbm, ⟨55, _⟩ => ⟨S1x64, .i32⟩
  | .hbm, ⟨56, _⟩ => ⟨S64x64, .i32⟩
  | .hbm, ⟨57, _⟩ => ⟨S64x64, .i32⟩
  | .hbm, ⟨58, _⟩ => ⟨S64x64, .i1⟩
  | .hbm, ⟨59, _⟩ => ⟨S64x64, .f32⟩
  | .hbm, ⟨60, _⟩ => ⟨S_, .f32⟩
  | .hbm, ⟨61, _⟩ => ⟨S64, .f32⟩
  | .hbm, ⟨62, _⟩ => ⟨S_, .f32⟩
  | .hbm, ⟨63, _⟩ => ⟨S64, .f32⟩
  | .hbm, ⟨64, _⟩ => ⟨S64, .f32⟩
  | .hbm, ⟨65, _⟩ => ⟨S_, .f32⟩
  | .hbm, ⟨66, _⟩ => ⟨S64, .f32⟩
  | .hbm, ⟨67, _⟩ => ⟨S_, .f32⟩
  | .hbm, ⟨68, _⟩ => ⟨S64, .f32⟩
  | .hbm, ⟨69, _⟩ => ⟨S64, .f32⟩
  | .hbm, ⟨70, _⟩ => ⟨S64, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | _, _ => ⟨S8x8x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_values : Ref sig .tc := ⟨.hbm, 22, rfl⟩
abbrev main_indices : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_call1_v0 : Ref sig .tc := ⟨.hbm, 38, rfl⟩
abbrev main_call1_v1 : Ref sig .tc := ⟨.hbm, 39, rfl⟩
abbrev main_call1_cst : Ref sig .tc := ⟨.hbm, 40, rfl⟩
abbrev main_call1_v2 : Ref sig .tc := ⟨.hbm, 41, rfl⟩
abbrev main_call1_v3 : Ref sig .tc := ⟨.hbm, 42, rfl⟩
abbrev main_call1_cst_0 : Ref sig .tc := ⟨.hbm, 43, rfl⟩
abbrev main_call1_v4 : Ref sig .tc := ⟨.hbm, 44, rfl⟩
abbrev main_call1_v5 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_call2_v0 : Ref sig .tc := ⟨.hbm, 54, rfl⟩
abbrev main_call2_v1 : Ref sig .tc := ⟨.hbm, 55, rfl⟩
abbrev main_call2_v2 : Ref sig .tc := ⟨.hbm, 56, rfl⟩
abbrev main_call2_v3 : Ref sig .tc := ⟨.hbm, 57, rfl⟩
abbrev main_call2_v4 : Ref sig .tc := ⟨.hbm, 58, rfl⟩
abbrev main_v30 : Ref sig .tc := ⟨.hbm, 59, rfl⟩
abbrev main_cst_3 : Ref sig .tc := ⟨.hbm, 60, rfl⟩
abbrev main_v31 : Ref sig .tc := ⟨.hbm, 61, rfl⟩
abbrev main_cst_4 : Ref sig .tc := ⟨.hbm, 62, rfl⟩
abbrev main_v32 : Ref sig .tc := ⟨.hbm, 63, rfl⟩
abbrev main_v33 : Ref sig .tc := ⟨.hbm, 64, rfl⟩
abbrev main_cst_5 : Ref sig .tc := ⟨.hbm, 65, rfl⟩
abbrev main_v34 : Ref sig .tc := ⟨.hbm, 66, rfl⟩
abbrev main_cst_6 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_cst_7 : Ref sig .tc := ⟨.hbm, 71, rfl⟩
abbrev main_v38 : Ref sig .tc := ⟨.hbm, 72, rfl⟩
abbrev main_cst_8 : Ref sig .tc := ⟨.hbm, 73, rfl⟩
abbrev main_v39 : Ref sig .tc := ⟨.hbm, 74, rfl⟩

abbrev nD : Nat := 1
abbrev τ : Topo := Topo.v7x

variable {F : FTy → Type} [FloatOps F]
-- ==== Proof.Words.lean ====
/-
  The dispatch on words: what the SparseCore kernel's scans and scatters compute, as facts about words and natural numbers, with
  no program and no memory in them.

  The kernel reads 128 words (each token's two chosen experts), clamps each into 0 … 63, sets a flag for every expert that
  occurs, numbers the flagged experts in ascending order (the running sum of the flags) and writes expert `e` at its number.
-/
module

public import proofs.«01_k».proof.Proof.Gen.KernelIdeal
public import proofs.«01_k».proof.Proof.Gen.KernelIdeal.Skeleton

@[expose] public section

set_option maxRecDepth 16384

noncomputable section

namespace Cert.Proof

open Cert.KernelIdeal Cert.KernelIdeal.Gen
open Idealize.ShloMosaic

/-! ## Clamped words -/

/-- The word clamped into 0 … 63, as the kernel clamps it. -/
def clampW (w : BitVec 32) : BitVec 32 := IntOp.minsi (IntOp.maxsi w 0#32) 63#32

/-- A clamped word is below 64. -/
theorem clampW_lt (w : BitVec 32) : (clampW w).toNat < 64 := by
  have h0 : (0#32 : BitVec 32).toInt = 0 := by decide
  have h63 : (63#32 : BitVec 32).toInt = 63 := by decide
  unfold clampW IntOp.minsi IntOp.maxsi
  simp only [BitVec.slt, h0, h63]
  split_ifs with h1 h2 h2
  · simp only [decide_eq_true_eq] at h1 h2
    rw [BitVec.toInt_eq_toNat_cond] at h1 h2
    split_ifs at h1 h2 <;> omega
  · decide
  · decide
  · decide

/-- A word already below 64 is its own clamp. -/
theorem clampW_ofNat (n : ℕ) (h : n < 64) : clampW (BitVec.ofNat 32 n) = BitVec.ofNat 32 n := by
  have : ∀ n : Fin 64, clampW (BitVec.ofNat 32 n.val) = BitVec.ofNat 32 n.val := by decide +kernel
  exact this ⟨n, h⟩

/-! ## Lanes -/

/-- Lane `k` of a sixteen-lane vector. -/
def lane (k : ℕ) (h : k < 16) : S16.Idx := fun a => ⟨k, by rw [Subsingleton.elim a 0]; exact h⟩

theorem lane_eta (x : S16.Idx) : lane (x 0).val (x 0).isLt = x := by
  funext a; rw [Subsingleton.elim a 0]; rfl

/-- Every lane is a numbered one. -/
theorem exists_lane (x : S16.Idx) : ∃ k h, x = lane k h := ⟨_, _, (lane_eta x).symm⟩

/-! ## A scan, lane by lane -/

/-- A scan's lane `j` as a fold over sixteen numbered lanes. -/
private def scanL (kd : ScanKind) (v : Fin 16 → BitVec 32) (j : Fin 16) : BitVec 32 :=
  ((List.finRange 16).filter fun k => decide (0 < k.val ∧ k.val ≤ j.val)).foldl (fun r k => kd.step r (v k)) (v 0)

private theorem scan_eq (kd : ScanKind) (v : IVec S16 32) (j : ℕ) (h : j < 16) :
    scan kd v (lane j h) = scanL kd (fun k => v (lane k.val k.isLt)) ⟨j, h⟩ := rfl

/-- The first lane of a scan is the vector's. -/
theorem scan_zero (kd : ScanKind) (v : IVec S16 32) : scan kd v (lane 0 (by omega)) = v (lane 0 (by omega)) := by
  have h : ((List.finRange 16).filter fun k => decide (0 < k.val ∧ k.val ≤ (0 : Fin 16).val)) = [] := by decide
  rw [scan_eq]; unfold scanL
  show List.foldl _ _ ((List.finRange 16).filter fun k => decide (0 < k.val ∧ k.val ≤ (0 : Fin 16).val)) = _
  rw [h]; rfl

private theorem filter_succ : ∀ i : Fin 15, ((List.finRange 16).filter fun k => decide (0 < k.val ∧ k.val ≤ i.succ.val))
    = ((List.finRange 16).filter fun k => decide (0 < k.val ∧ k.val ≤ i.castSucc.val)) ++ [i.succ] := by decide

/-- Every later lane is the lane before it taken with the vector's own. -/
theorem scan_succ (kd : ScanKind) (v : IVec S16 32) (j : ℕ) (h : j + 1 < 16) :
    scan kd v (lane (j + 1) h) = kd.step (scan kd v (lane j (by omega))) (v (lane (j + 1) h)) := by
  rw [scan_eq, scan_eq]; unfold scanL
  have := filter_succ ⟨j, by omega⟩
  simp only [Fin.succ_mk, Fin.castSucc_mk] at this
  rw [this, List.foldl_append]; rfl

/-! ## Counting flags -/

/-- How many of the first `n` numbers are flagged. -/
def below (b : ℕ → Prop) [DecidablePred b] (n : ℕ) : ℕ := ∑ i ∈ Finset.range n, if b i then 1 else 0

section Below
variable (b : ℕ → Prop) [DecidablePred b]

theorem below_succ (n : ℕ) : below b (n + 1) = below b n + if b n then 1 else 0 := Finset.sum_range_succ _ _

theorem below_le (n : ℕ) : below b n ≤ n := by
  induction n with
  | zero => simp [below]
  | succ n ih => rw [below_succ]; split_ifs <;> omega

theorem below_mono {n k : ℕ} (h : n ≤ k) : below b n ≤ below b k := by
  induction k with
  | zero => simp [Nat.le_zero.mp h]
  | succ k ih =>
    rcases Nat.lt_or_ge n (k + 1) with h1 | h1
    · rw [below_succ]; have := ih (by omega); split_ifs <;> omega
    · rw [Nat.le_antisymm h h1]

/-- A flagged number has fewer flagged numbers below it than any larger one. -/
theorem below_lt {n k : ℕ} (h : n < k) (hb : b n) : below b n < below b k := by
  have h1 := below_mono b (n := n + 1) (k := k) h
  rw [below_succ, if_pos hb] at h1; omega

/-- Two flagged numbers with as many flagged numbers below them are the same. -/
theorem below_inj {n k : ℕ} (hn : b n) (hk : b k) (h : below b n = below b k) : n = k := by
  rcases Nat.lt_trichotomy n k with h1 | h1 | h1
  · exact absurd h (below_lt b h1 hn).ne
  · exact h1
  · exact absurd h.symm (below_lt b h1 hk).ne

/-- A flagged number of a row of sixteen: the flag as the word the kernel keeps. -/
def bit (n : ℕ) : BitVec 32 := if b n then 1#32 else 0#32

theorem bit_eq (n : ℕ) : bit b n = BitVec.ofNat 32 (if b n then 1 else 0) := by unfold bit; split_ifs <;> rfl

/-- The running sum of sixteen flags from the `B`-th on: with the count before them it is the count so far. -/
theorem scan_bits (B : ℕ) (v : IVec S16 32) (hv : ∀ k h, v (lane k h) = bit b (B + k)) (j : ℕ) (h : j < 16) :
    BitVec.ofNat 32 (below b B) + scan .sum v (lane j h) = BitVec.ofNat 32 (below b (B + j + 1)) := by
  induction j with
  | zero =>
    rw [scan_zero, hv, bit_eq, Nat.add_zero, below_succ]
    exact (BitVec.ofNat_add _ _).symm
  | succ j ih =>
    rw [scan_succ, hv, bit_eq]
    show BitVec.ofNat 32 (below b B) + (scan .sum v (lane j _) + _) = _
    rw [← BitVec.add_assoc, ih (by omega), below_succ b (B + (j + 1)), BitVec.ofNat_add]
    rfl

/-- The positions the kernel scatters sixteen experts at: how many flagged experts come before each. -/
theorem excl_scan_bits (B : ℕ) (v : IVec S16 32) (hv : ∀ k h, v (lane k h) = bit b (B + k)) (c : BitVec 32)
    (hc : c = BitVec.ofNat 32 (below b B)) (j : ℕ) (h : j < 16) :
    (scan .sum v (lane j h) - v (lane j h)) + c = BitVec.ofNat 32 (below b (B + j)) := by
  have h1 := scan_bits b B v hv j h
  have h2 := congrArg (BitVec.ofNat 32) (below_succ b (B + j))
  rw [BitVec.ofNat_add, ← bit_eq, ← hv j h] at h2
  rw [hc]
  have h3 : BitVec.ofNat 32 (below b (B + j)) = BitVec.ofNat 32 (below b (B + j + 1)) - v (lane j h) := by
    rw [h2, BitVec.add_sub_cancel]
  rw [h3, ← h1, BitVec.add_comm, BitVec.sub_eq_add_neg, BitVec.sub_eq_add_neg, BitVec.add_assoc]

/-- The count carried from one row of sixteen to the next. -/
theorem carry_bits (B : ℕ) (v : IVec S16 32) (hv : ∀ k h, v (lane k h) = bit b (B + k)) (c : BitVec 32)
    (hc : c = BitVec.ofNat 32 (below b B)) : c + scan .sum v (lane 15 (by omega)) = BitVec.ofNat 32 (below b (B + 16)) := by
  rw [hc]; exact scan_bits b B v hv 15 (by omega)

end Below

/-! ## The largest flagged expert -/

/-- A word that is minus one or below 64. -/
def Small (w : BitVec 32) : Prop := (w + 1#32).toNat ≤ 64

/-- The word with its sign bit flipped. -/
abbrev flip (w : BitVec 32) : BitVec 32 := w ^^^ 2147483648#32

/-- A word between `2³¹ − 1` and `2³¹ + 63`: a small word with its sign bit flipped. -/
def Mid (w : BitVec 32) : Prop := 2147483647 ≤ w.toNat ∧ w.toNat ≤ 2147483711

theorem small_cases {w : BitVec 32} (h : Small w) : ∃ c : Fin 65, w = BitVec.ofNat 32 c.val - 1#32 := by
  refine ⟨⟨(w + 1#32).toNat, Nat.lt_succ_of_le h⟩, ?_⟩
  rw [BitVec.ofNat_toNat, BitVec.setWidth_eq, BitVec.add_sub_cancel]

theorem mid_cases {w : BitVec 32} (h : Mid w) : ∃ c : Fin 65, w = BitVec.ofNat 32 (2147483647 + c.val) := by
  obtain ⟨h1, h2⟩ := h
  refine ⟨⟨w.toNat - 2147483647, by omega⟩, ?_⟩
  have : 2147483647 + (w.toNat - 2147483647) = w.toNat := by omega
  simp [this]

theorem small_flip {w : BitVec 32} (h : Small w) : Mid (flip w) := by
  obtain ⟨c, rfl⟩ := small_cases h
  have : ∀ c : Fin 65, 2147483647 ≤ (flip (BitVec.ofNat 32 c.val - 1#32)).toNat
      ∧ (flip (BitVec.ofNat 32 c.val - 1#32)).toNat ≤ 2147483711 := by decide +kernel
  exact this c

theorem mid_flip {w : BitVec 32} (h : Mid w) : Small (flip w) := by
  obtain ⟨c, rfl⟩ := mid_cases h
  have : ∀ c : Fin 65, (flip (BitVec.ofNat 32 (2147483647 + c.val)) + 1#32).toNat ≤ 64 := by decide +kernel
  exact this c

theorem small_ofNat {n : ℕ} (h : n < 64) : Small (BitVec.ofNat 32 n) := by
  unfold Small
  rw [BitVec.toNat_add, BitVec.toNat_ofNat]
  simp only [BitVec.toNat_ofNat]; omega

theorem small_neg : Small 4294967295#32 := by unfold Small; decide

/-- The running maximum of sixteen small words, taken with the sign bits flipped, is small. -/
theorem small_scan_max (u : IVec S16 32) (hu : ∀ x, Small (u x)) (x : S16.Idx) :
    Small (flip (scan .max (fun y => flip (u y)) x)) := by
  obtain ⟨j, h, rfl⟩ := exists_lane x
  refine mid_flip ?_
  induction j with
  | zero => rw [scan_zero]; exact small_flip (hu _)
  | succ j ih =>
    rw [scan_succ]
    show Mid (IntOp.maxui _ _)
    unfold IntOp.maxui
    split_ifs
    · exact ih (by omega)
    · exact small_flip (hu _)

/-- The larger of a word of 0 … 63 and a small word is a word of 0 … 63. -/
theorem maxsi_small {a w : BitVec 32} (ha : a.toNat < 64) (hw : Small w) : (IntOp.maxsi a w).toNat < 64 := by
  have h : ∀ (a : Fin 64) (c : Fin 65), (IntOp.maxsi (BitVec.ofNat 32 a.val) (BitVec.ofNat 32 c.val - 1#32)).toNat < 64 := by
    decide +kernel
  obtain ⟨c, rfl⟩ := small_cases hw
  have := h ⟨a.toNat, ha⟩ c
  simpa using this

/-! ## A scatter, element by element -/

section Scatter

variable {F : FTy → Type} [FloatOps F] {n : ℕ} {e : EltTy}

private theorem foldl_miss (P : Fin 16 → Prop) [DecidablePred P] {α : Type} (H : Fin 16 → (⟨1, ![n]⟩ : Shape).Idx → Prop) [∀ k j, Decidable (H k j)]
    (v : Fin 16 → α) (j : (⟨1, ![n]⟩ : Shape).Idx) (l : List (Fin 16)) (f : (⟨1, ![n]⟩ : Shape).Idx → α)
    (h : ∀ k ∈ l, P k → ¬ H k j) :
    l.foldl (fun g k => if P k then (fun j => if H k j then v k else g j) else g) f j = f j := by
  induction l generalizing f with
  | nil => rfl
  | cons k l ih =>
    rw [List.foldl_cons, ih _ fun k' hk' => h k' (List.mem_cons_of_mem _ hk')]
    by_cases hP : P k
    · rw [if_pos hP, if_neg (h k List.mem_cons_self hP)]
    · rw [if_neg hP]

private theorem foldl_hit (P : Fin 16 → Prop) [DecidablePred P] {α : Type} (H : Fin 16 → (⟨1, ![n]⟩ : Shape).Idx → Prop) [∀ k j, Decidable (H k j)]
    (v : Fin 16 → α) (j : (⟨1, ![n]⟩ : Shape).Idx) (l : List (Fin 16)) (f : (⟨1, ![n]⟩ : Shape).Idx → α) (w : α)
    (hw : ∀ k ∈ l, P k → H k j → v k = w) (h : (∃ k ∈ l, P k ∧ H k j) ∨ f j = w) :
    l.foldl (fun g k => if P k then (fun j => if H k j then v k else g j) else g) f j = w := by
  induction l generalizing f with
  | nil => rcases h with ⟨k, hk, _⟩ | h; · exact absurd hk List.not_mem_nil
           exact h
  | cons k l ih =>
    rw [List.foldl_cons]
    refine ih _ (fun k' hk' => hw k' (List.mem_cons_of_mem _ hk')) ?_
    by_cases hk : P k ∧ H k j
    · right; rw [if_pos hk.1, if_pos hk.2]; exact hw k List.mem_cons_self hk.1 hk.2
    · have e : (if P k then (fun j => if H k j then v k else f j) else f) j = f j := by
        by_cases hP : P k
        · rw [if_pos hP, if_neg fun hH => hk ⟨hP, hH⟩]
        · rw [if_neg hP]
      rw [e]
      rcases h with ⟨k', hk', h1⟩ | h
      · rcases List.mem_cons.mp hk' with rfl | hk'
        · exact absurd h1 hk
        · exact .inl ⟨k', hk', h1⟩
      · exact .inr h

variable (f : Vec F ⟨1, ![n]⟩ e) (i : IVec S16 32) (v : Vec F S16 e) (mask : IVec S16 1)
  (h : ∀ a x, ((![i] : Fin 1 → IVec S16 32) a x).toNat < (⟨1, ![n]⟩ : Shape).size a)

private theorem storeIdx_fold : storeIdx (s := ⟨1, ![n]⟩) (d := ![16]) f ![i] v mask false h
    = (List.finRange 16).foldl (fun g k => if mask (lane k.val k.isLt) = 1 then
        (fun j => if (∀ a : Fin 1, (j a).val = (idxAt (s := ⟨1, ![n]⟩) ![i] h (lane k.val k.isLt) a).val) then v (lane k.val k.isLt) else g j) else g) f := by
  unfold storeIdx
  refine congrArg (fun F => List.foldl F f (List.finRange 16)) ?_
  funext g k
  simp only [Bool.false_eq_true, if_false]; rfl

private theorem hit_iff (j : (⟨1, ![n]⟩ : Shape).Idx) (x : S16.Idx) :
    (∀ a : Fin 1, (j a).val = (idxAt (s := ⟨1, ![n]⟩) ![i] h x a).val) ↔ (j 0).val = (i x).toNat := by
  constructor
  · intro H; exact H 0
  · intro H a; rw [Subsingleton.elim a 0]; exact H

/-- An element no set lane names keeps its value. -/
theorem storeIdx_miss (j : (⟨1, ![n]⟩ : Shape).Idx) (hm : ∀ x, mask x = 1 → (i x).toNat ≠ (j 0).val) :
    storeIdx (s := ⟨1, ![n]⟩) (d := ![16]) f ![i] v mask false h j = f j := by
  rw [storeIdx_fold]
  refine foldl_miss (fun k => mask (lane k.val k.isLt) = 1) _ (fun k => v (lane k.val k.isLt)) j _ f ?_
  intro k _ hk H
  exact hm _ hk ((hit_iff i h j _).mp H).symm

/-- An element some set lane names takes the value the set lanes that name it agree on. -/
theorem storeIdx_hit (j : (⟨1, ![n]⟩ : Shape).Idx) (w : Elt F e) (x : S16.Idx) (hx : mask x = 1) (hix : (i x).toNat = (j 0).val)
    (hw : ∀ x, mask x = 1 → (i x).toNat = (j 0).val → v x = w) :
    storeIdx (s := ⟨1, ![n]⟩) (d := ![16]) f ![i] v mask false h j = w := by
  rw [storeIdx_fold]
  refine foldl_hit (fun k => mask (lane k.val k.isLt) = 1) _ (fun k => v (lane k.val k.isLt)) j _ f w ?_ (.inl ?_)
  · intro k _ hk H
    exact hw _ hk ((hit_iff i h j _).mp H).symm
  · refine ⟨x 0, List.mem_finRange _, ?_, ?_⟩
    · show mask (lane (x 0).val (x 0).isLt) = 1
      rw [lane_eta]; exact hx
    · refine (hit_iff i h j _).mpr ?_
      show (j 0).val = (i (lane (x 0).val (x 0).isLt)).toNat
      rw [lane_eta]; exact hix.symm

end Scatter

end Cert.Proof

end
-- ==== Proof.Dispatch.lean ====
/-
  The dispatch list as a function of the 128 words the router names: which experts are chosen, the flag vector after each group
  of sixteen words, the list after each group of sixteen experts, and the facts the rest of the proof takes from the list — every
  entry is an expert's number, the count is between 1 and 64, and the chosen expert with `k` chosen experts below it stands at
  entry `k`.
-/
module

public import proofs.«01_k».proof.Proof.Words

@[expose] public section

set_option maxRecDepth 16384

noncomputable section

namespace Cert.Proof

open Cert.KernelIdeal Cert.KernelIdeal.Gen
open Idealize.ShloMosaic

/-- Index `n` of a vector of extent `d`. -/
def at1 (d n : ℕ) (h : n < d) : (⟨1, ![d]⟩ : Shape).Idx := fun a => ⟨n, by rw [Subsingleton.elim a 0]; exact h⟩

theorem at1_eta {d : ℕ} (x : (⟨1, ![d]⟩ : Shape).Idx) : at1 d (x 0).val (x 0).isLt = x := by
  funext a; rw [Subsingleton.elim a 0]; rfl

variable (g : IVec S128 32)

/-- Word `n` of the 128. -/
def word (n : ℕ) : BitVec 32 := if h : n < 128 then g (at1 128 n h) else 0#32

/-- Expert `e` is named by one of the first `n` words. -/
def Named (n e : ℕ) : Prop := ∃ p, p < n ∧ (clampW (word g p)).toNat = e

instance (n : ℕ) : DecidablePred (Named g n) := fun _ => inferInstanceAs (Decidable (∃ p, p < n ∧ _))

/-- Expert `e` is chosen: some word names it. -/
abbrev Chosen (e : ℕ) : Prop := Named g 128 e

/-- The flag vector after the first `n` words. -/
def flags (n : ℕ) : IVec S64 32 := fun x => bit (Named g n) (x 0).val

theorem flags_zero : flags g 0 = fun _ => 0#32 := by
  funext x; unfold flags bit
  rw [if_neg]; rintro ⟨p, hp, _⟩; omega

/-- Sixteen more words: the scatter of ones at their clamps sets the flags of the experts they name. -/
theorem flags_step {F : FTy → Type} [FloatOps F] (n : ℕ) (v i ones : IVec S16 32) (mask : IVec S16 1) (hv : ∀ k h, v (lane k h) = word g (n + k))
    (hi : ∀ x, i x = clampW (v x)) (hm : ∀ x, mask x = 1#1) (ho : ∀ x, ones x = 1#32)
    (h : ∀ a x, ((![i] : Fin 1 → IVec S16 32) a x).toNat < S64.size a) :
    storeIdx (F := F) (e := .i32) (s := S64) (d := ![16]) (flags g n) ![i] ones mask false h = flags g (n + 16) := by
  funext j
  by_cases hj : ∃ x, (i x).toNat = (j 0).val
  · obtain ⟨x, hx⟩ := hj
    have e : flags g (n + 16) j = 1#32 := by
      obtain ⟨k, hk, rfl⟩ := exists_lane x
      unfold flags bit
      rw [if_pos]
      exact ⟨n + k, by omega, by rw [← hv k hk, ← hi]; exact hx⟩
    rw [e]
    exact storeIdx_hit (F := F) (e := .i32) (n := 64) (flags g n) i ones mask h j (1#32) x (hm x) hx fun x _ _ => ho x
  · have := storeIdx_miss (F := F) (e := .i32) (n := 64) (flags g n) i ones mask h j fun x _ hx => hj ⟨x, hx⟩
    refine this.trans ?_
    unfold flags bit
    have hiff : Named g n (j 0).val ↔ Named g (n + 16) (j 0).val := by
      constructor
      · rintro ⟨p, hp, h⟩; exact ⟨p, by omega, h⟩
      · rintro ⟨p, hp, h⟩
        rcases Nat.lt_or_ge p n with h1 | h1
        · exact ⟨p, h1, h⟩
        · refine absurd ⟨lane (p - n) (by omega), ?_⟩ hj
          rw [hi, hv, show n + (p - n) = p by omega]; exact h
    simp only [hiff]

/-! ## The list -/

/-- How many chosen experts there are below `n`. -/
abbrev rank (n : ℕ) : ℕ := below (Chosen g) n

/-- Entry `k` of the list belongs to a chosen expert below `n`. -/
def Listed (n k : ℕ) : Prop := ∃ e, e < n ∧ Chosen g e ∧ rank g e = k

instance (n k : ℕ) : Decidable (Listed g n k) := inferInstanceAs (Decidable (∃ e, e < n ∧ _))

/-- The list after the first `n` experts, over the contents `f`. -/
def listed (f : IVec S80 32) (n : ℕ) : IVec S80 32 := fun x =>
  if h : Listed g n (x 0).val then BitVec.ofNat 32 (Nat.find h) else f x

theorem listed_zero (f : IVec S80 32) : listed g f 0 = f := by
  funext x; unfold listed; rw [dif_neg]; rintro ⟨e, he, _⟩; omega

theorem listed_of {f : IVec S80 32} {n e : ℕ} {x : S80.Idx} (he : e < n) (hc : Chosen g e) (hr : rank g e = (x 0).val) :
    listed g f n x = BitVec.ofNat 32 e := by
  have h : Listed g n (x 0).val := ⟨e, he, hc, hr⟩
  unfold listed
  rw [dif_pos h]
  obtain ⟨_, h1, h2⟩ := Nat.find_spec h
  rw [below_inj (Chosen g) h1 hc (h2.trans hr.symm)]

theorem listed_not {f : IVec S80 32} {n : ℕ} {x : S80.Idx} (h : ¬ Listed g n (x 0).val) : listed g f n x = f x := by
  unfold listed; rw [dif_neg h]

/-- Sixteen more experts: the scatter of their numbers at their ranks lists the chosen ones of them. -/
theorem listed_step {F : FTy → Type} [FloatOps F] (f : IVec S80 32) (n : ℕ) (hn : n + 16 ≤ 64) (i v : IVec S16 32) (mask : IVec S16 1)
    (hi : ∀ k h, i (lane k h) = BitVec.ofNat 32 (rank g (n + k))) (hv : ∀ k h, v (lane k h) = BitVec.ofNat 32 (n + k))
    (hm : ∀ k h, mask (lane k h) = 1#1 ↔ Chosen g (n + k)) (h : ∀ a x, ((![i] : Fin 1 → IVec S16 32) a x).toNat < S80.size a) :
    storeIdx (F := F) (e := .i32) (s := S80) (d := ![16]) (listed g f n) ![i] v mask false h = listed g f (n + 16) := by
  have hnat : ∀ k hk, (i (lane k hk)).toNat = rank g (n + k) := fun k hk => by
    rw [hi, BitVec.toNat_ofNat]
    have := below_le (Chosen g) (n + k)
    exact Nat.mod_eq_of_lt (by show below (Chosen g) (n + k) < _; omega)
  funext j
  by_cases hj : ∃ k, ∃ hk : k < 16, Chosen g (n + k) ∧ rank g (n + k) = (j 0).val
  · obtain ⟨k, hk, hc, hr⟩ := hj
    rw [listed_of g (by omega) hc hr]
    refine storeIdx_hit (F := F) (e := .i32) (n := 80) (listed g f n) i v mask h j _ (lane k hk) ((hm k hk).mpr hc) ((hnat k hk).trans hr) fun x hx hix => ?_
    obtain ⟨k', hk', rfl⟩ := exists_lane x
    have h1 := below_inj (Chosen g) ((hm k' hk').mp hx) hc (((hnat k' hk').symm.trans hix).trans hr.symm)
    exact (hv k' hk').trans (by rw [h1])
  · have h0 := storeIdx_miss (F := F) (e := .i32) (n := 80) (listed g f n) i v mask h j fun x hx hix => by
      obtain ⟨k', hk', rfl⟩ := exists_lane x
      exact hj ⟨k', hk', (hm k' hk').mp hx, (hnat k' hk').symm.trans hix⟩
    refine h0.trans ?_
    have hback : Listed g (n + 16) (j 0).val → ∃ e, e < n ∧ Chosen g e ∧ rank g e = (j 0).val := by
      rintro ⟨e, he, hc, hr⟩
      rcases Nat.lt_or_ge e n with h1 | h1
      · exact ⟨e, h1, hc, hr⟩
      · exact absurd ⟨e - n, by omega, by rw [show n + (e - n) = e by omega]; exact ⟨hc, hr⟩⟩ hj
    by_cases hl : Listed g (n + 16) (j 0).val
    · obtain ⟨e, he, hc, hr⟩ := hback hl
      rw [listed_of g he hc hr, listed_of g (by omega) hc hr]
    · rw [listed_not g hl, listed_not g fun ⟨e, he, hc⟩ => hl ⟨e, by omega, hc⟩]

/-! ## The entry the list is filled up with -/

/-- The numbers of the chosen experts among the sixteen from `B` on, minus one for the others. -/
def cand (B : ℕ) : IVec S16 32 := fun x => if Chosen g (B + (x 0).val) then BitVec.ofNat 32 (B + (x 0).val) else 4294967295#32

/-- The largest of them. -/
def top16 (B : ℕ) : BitVec 32 := flip (scan .max (fun y => flip (cand g B y)) (lane 15 (by omega)))

/-- The largest chosen expert: what fills the list behind its last entry. -/
def fill : BitVec 32 :=
  IntOp.maxsi (IntOp.maxsi (IntOp.maxsi (IntOp.maxsi 0#32 (top16 g 0)) (top16 g 16)) (top16 g 32)) (top16 g 48)

theorem small_top16 (B : ℕ) (h : B + 16 ≤ 64) : Small (top16 g B) := by
  refine small_scan_max (cand g B) (fun x => ?_) _
  unfold cand
  split_ifs
  · exact small_ofNat (by have : (x 0).val < 16 := (x 0).isLt; omega)
  · exact small_neg

theorem fill_lt : (fill g).toNat < 64 :=
  maxsi_small (maxsi_small (maxsi_small (maxsi_small (by decide) (small_top16 g 0 (by omega))) (small_top16 g 16 (by omega)))
    (small_top16 g 32 (by omega))) (small_top16 g 48 (by omega))

/-! ## What the kernel leaves -/

/-- The dispatch list: the chosen experts in ascending order, filled up to 64 entries, then the count in the last sixteen. -/
def dispatch : IVec S80 32 := fun x =>
  if (x 0).val < 64 then listed g (fun _ => fill g) 64 x else BitVec.ofNat 32 (rank g 64)

theorem word_mod (p : ℕ) (h : p < 128) : word g p = g (at1 128 p h) := by unfold word; rw [dif_pos h]

/-- A chosen expert is below 64. -/
theorem chosen_lt {e : ℕ} (h : Chosen g e) : e < 64 := by
  obtain ⟨p, _, rfl⟩ := h; exact clampW_lt _

theorem rank_pos : 1 ≤ rank g 64 := by
  have hc : Chosen g (clampW (word g 0)).toNat := ⟨0, by omega, rfl⟩
  have := below_lt (Chosen g) (chosen_lt g hc) hc
  show 1 ≤ below (Chosen g) 64
  omega

theorem rank_le : rank g 64 ≤ 64 := below_le _ _

/-- An entry of the list is an expert's number. -/
theorem dispatch_lt (x : S80.Idx) (h : (x 0).val < 64) : (dispatch g x).toNat < 64 := by
  unfold dispatch
  rw [if_pos h]
  by_cases hl : Listed g 64 (x 0).val
  · obtain ⟨e, he, hc, hr⟩ := hl
    rw [listed_of g he hc hr, BitVec.toNat_ofNat]; omega
  · rw [listed_not g hl]; exact fill_lt g

/-- The count. -/
theorem dispatch_count (x : S80.Idx) (h : 64 ≤ (x 0).val) : (dispatch g x).toNat = rank g 64 := by
  unfold dispatch
  rw [if_neg (by omega), BitVec.toNat_ofNat]
  have := rank_le g
  exact Nat.mod_eq_of_lt (by omega)

/-- The chosen expert `e` stands at the entry numbered by the chosen experts below it. -/
theorem dispatch_at {e : ℕ} (h : Chosen g e) (x : S80.Idx) (hx : rank g e = (x 0).val) : dispatch g x = BitVec.ofNat 32 e := by
  have he := chosen_lt g h
  have h1 := below_le (Chosen g) e
  unfold dispatch
  rw [if_pos (by rw [← hx]; show below (Chosen g) e < 64; omega), listed_of g he h hx]

end Cert.Proof

end
-- ==== Proof.Common.lean ====
/-
  What every part of the run shares: the program as the launch theorem sees it, the resource algebra (the handshakes' rounds,
  the pipelines' staging cells, the transfers' counters), and the buffers by name.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.Regions
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Dispatch

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-! ## The program as the launch theorem sees it -/

abbrev ΛP : Labels := Pipeline.Sig Λ₀ (Fin 2) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UP : Type := UR sig nD τ
abbrev UU : Type := UH × (UP × Counters)

local notation "𝕄" => MT nD τ sig (HIx 1) (Elt F) ℕ UU ℕ

/-- The handshakes' place in the algebra. -/
abbrev EH : Emb UH (MT nD τ sig (HIx 1) (Elt F) ℕ UU ℕ) := embL
/-- The staging cells' place in it. -/
def EP : Emb UP (MT nD τ sig (HIx 1) (Elt F) ℕ UU ℕ) := (Emb.inl : Emb UP (UP × Counters)).trans embR
instance EP_landsIn : (EP : Emb UP 𝕄).LandsIn (upEmb : UEmb _ 𝕄) := by unfold EP; infer_instance

/-- The launch element splits into the two libraries' parts. -/
theorem ownU_parts (a : UH) (b : UP) : (ownU ((a, (b, 1)) : UU) : sProp 𝕄) ⊢ iprop(BI.own (EH a) ∗ BI.own (EP b)) := by
  have h := own_pair_emb (embR : Emb (UP × Counters) 𝕄) b (1 : Counters)
  iintro H
  ihave H := (ownU_pair a ((b, 1) : UP × Counters)) $$ H
  icases H with ⟨HA, HB⟩
  isplitl [HA]; · iexact HA
  ihave H := h $$ HB
  icases H with ⟨H, -⟩
  unfold EP
  iexact H

/-! ## The buffers -/

abbrev v2Loc (d : Dev nD) : Loc nD τ sig := (SparseCore.T d).loc main_v2
abbrev v3Loc (d : Dev nD) : Loc nD τ sig := (SparseCore.T d).loc main_v3

end Cert.Proof

end
-- ==== Proof.Tile.lean ====
/-
  The dispatch kernel on a tile. Tile 0 of SparseCore 0 fetches the 128 words, sets the flags, numbers the flagged experts, and
  writes the dispatch list out; every other tile does nothing.
-/
module

public import proofs.«01_k».proof.Proof.Common

@[expose] public section

set_option maxRecDepth 16384

noncomputable section

namespace Cert.Proof

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid1.Coords)

abbrev cV (L : grid1.Coords) : Fin τ.nSC := (L 0).castLE hcore1
abbrev jV (L : grid1.Coords) : Fin τ.nSub := (L 1).castLE hsub1

/-- The words, the list, and the tile's three scratches, as the tile names them. -/
abbrev wordsV : Memref sig .scVector .hbm S128 .i32 := Memref.whole main_v2_scv
abbrev listV : Memref sig .scVector .hbm S80 .i32 := Memref.whole main_v3_scv
abbrev scrA : Memref sig .scVector .vmem S128 .i32 := Memref.whole cc1_scratch0
abbrev scrB : Memref sig .scVector .vmem S64 .i32 := Memref.whole cc1_scratch1
abbrev scrC : Memref sig .scVector .vmem S80 .i32 := Memref.whole cc1_scratch2

abbrev cellIn (d : Dev nD) (L : grid1.Coords) : GSem nD τ sig := (V d (cV L) (jV L), SemLoc.dma cc1_scoped0.sem)
abbrev cellOut (d : Dev nD) (L : grid1.Coords) : GSem nD τ sig := (V d (cV L) (jV L), SemLoc.dma cc1_scratch3.sem)

/-- The two cells are among the tile's own: they are them, at zero, and the rest. -/
theorem ownSems0_tile :
    (ownSems0 (V d (cV L) (jV L)) : sProp 𝕄)
      = iprop(semVal (cellIn d L) 0 ∗ semVal (cellOut d L) 0
          ∗ bigSep (((ownCells (V d (cV L) (jV L))).erase (cellIn d L)).erase (cellOut d L)) fun g => semVal g 0) := by
  unfold SparseCore.Cfg.ownSems0
  rw [SparseCore.bigSep_erase' ((mem_ownCells (g := cellIn d L)).mpr ⟨rfl, by
      show (SemLoc.dma cc1_scoped0.sem : SemLoc sig).isScoped .scVector = true; decide⟩),
    SparseCore.bigSep_erase' (Finset.mem_erase.mpr ⟨by simp [cellIn, cellOut]; decide, (mem_ownCells (g := cellOut d L)).mpr ⟨rfl, by
      show (SemLoc.dma cc1_scratch3.sem : SemLoc sig).isScoped .scVector = true; decide⟩⟩)]

/-- The three scratch buffers are among the tile's own: they are them, at some contents, and the rest. -/
theorem ownBufs_tile :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f)
          ∗ (∃ f, (V d (cV L) (jV L)).loc cc1_scratch2 ↦{fullShare} f)
          ∗ bigSep ((((ownRefs (τ := τ) (.scVector (cV L) (jV L))).erase ((Proc.scVector (cV L) (jV L)).devRef cc1_scratch0)).erase
              ((Proc.scVector (cV L) (jV L)).devRef cc1_scratch1)).erase ((Proc.scVector (cV L) (jV L)).devRef cc1_scratch2))
              fun b => iprop(∃ f, ((d, b) : Loc nD τ sig) ↦{fullShare} f)) := by
  have hmem : ∀ b : Ref sig .scVector, ((Proc.scVector (cV L) (jV L)).devRef b).owner = .proc (Proc.scVector (cV L) (jV L)) →
      (Proc.scVector (cV L) (jV L)).devRef b ∈ ownRefs (τ := τ) (.scVector (cV L) (jV L)) := fun b h =>
    SparseCore.Cfg.mem_ownRefs_of_owner (p := Proc.scVector (cV L) (jV L)) h
  have hne : ∀ b b' : Ref sig .scVector, b ≠ b' → (Proc.scVector (cV L) (jV L)).devRef b ≠ (Proc.scVector (cV L) (jV L)).devRef b' :=
    fun b b' h e => h (Proc.devRef_injective _ e)
  unfold SparseCore.Cfg.ownBufs
  refine (SparseCore.bigSep_erase' (hmem cc1_scratch0 rfl)).trans ?_
  rw [SparseCore.bigSep_erase' (Finset.mem_erase.mpr ⟨hne cc1_scratch1 cc1_scratch0 (by decide), hmem cc1_scratch1 rfl⟩),
    SparseCore.bigSep_erase' (Finset.mem_erase.mpr ⟨hne cc1_scratch2 cc1_scratch1 (by decide),
      Finset.mem_erase.mpr ⟨hne cc1_scratch2 cc1_scratch0 (by decide), hmem cc1_scratch2 rfl⟩⟩)]

/-- A load of sixteen of the fetched words. -/
theorem load_words (f : IVec S128 32) (n : ℕ) (inb : ∀ a, (![n] : Fin 1 → ℕ) a + S16.size a ≤ S128.size a) (k : ℕ) (h : k < 16) :
    (scrA.view.readAt (Elt F) (Rect.unit (s := S128) ![n] S16.size inb).toLoadRect f : IVec S16 32) (lane k h) = word f (n + k) := by
  have hn : n + 16 ≤ 128 := inb 0
  rw [word_mod f (n + k) (by omega)]
  simp only [View.readAt_apply, Memref.view_whole, View.read_whole]
  congr 1
  funext a; apply Fin.ext
  rw [LoadRect.idx_apply, Subsingleton.elim a 0]
  show n + 1 * k = n + k
  omega

/-- A load of sixteen flags. -/
theorem load_flags (f : IVec S64 32) (n : ℕ) (inb : ∀ a, (![n] : Fin 1 → ℕ) a + S16.size a ≤ S64.size a) (k : ℕ) (h : k < 16) :
    (scrB.view.readAt (Elt F) (Rect.unit (s := S64) ![n] S16.size inb).toLoadRect f : IVec S16 32) (lane k h)
      = f (at1 64 (n + k) (by have := inb 0; change n + 16 ≤ 64 at this; omega)) := by
  simp only [View.readAt_apply, Memref.view_whole, View.read_whole]
  congr 1
  funext a; apply Fin.ext
  rw [LoadRect.idx_apply, Subsingleton.elim a 0]
  show n + 1 * k = n + k
  omega

/-- Words clamped are in range of the flag vector. -/
theorem clamp_inb (i : IVec S16 32) (hi : ∀ x, ∃ w, i x = clampW w) : ∀ a x, ((![i] : Fin 1 → IVec S16 32) a x).toNat < S64.size a := by
  intro a x
  rw [Subsingleton.elim a 0]
  show (i x).toNat < 64
  obtain ⟨w, hw⟩ := hi x
  rw [hw]; exact clampW_lt _

/-- Ranks are in range of the list. -/
theorem rank_inb (g : IVec S128 32) (B : ℕ) (hB : B + 16 ≤ 64) (i : IVec S16 32) (hi : ∀ k h, i (lane k h) = BitVec.ofNat 32 (rank g (B + k))) :
    ∀ a x, ((![i] : Fin 1 → IVec S16 32) a x).toNat < S80.size a := by
  intro a x
  rw [Subsingleton.elim a 0]
  show (i x).toNat < 80
  obtain ⟨k, h, rfl⟩ := exists_lane x
  rw [hi, BitVec.toNat_ofNat]
  have := below_le (Chosen g) (B + k)
  have e : rank g (B + k) = below (Chosen g) (B + k) := rfl
  omega

/-- The last lane. -/
theorem extract_last {n : ℕ} (v : IVec S16 n) (h) : extractAt ![15] v h = v (lane 15 (by omega)) := by
  unfold extractAt
  congr 1
  funext a; rw [Subsingleton.elim a 0]; rfl

/-- Sixteen flags from the `B`-th on. -/
def FlagsAt (g : IVec S128 32) (B : ℕ) (v : IVec S16 32) : Prop := ∀ k h, v (lane k h) = bit (Chosen g) (B + k)

theorem flagsAt_load (g : IVec S128 32) (B : ℕ) (inb : ∀ a, (![B] : Fin 1 → ℕ) a + S16.size a ≤ S64.size a) :
    FlagsAt g B (scrB.view.readAt (Elt F) (Rect.unit (s := S64) ![B] S16.size inb).toLoadRect (flags g 128)) := by
  intro k h
  rw [load_flags]; rfl

/-- Flags set are flags above zero. -/
theorem flagsAt_sgt {g : IVec S128 32} {B : ℕ} {v : IVec S16 32} (hv : FlagsAt g B v) (k : ℕ) (h : k < 16) :
    (cmpi .sgt v (broadcast S16 0#32) : IVec S16 1) (lane k h) = 1#1 ↔ Chosen g (B + k) := by
  show BitVec.ofBool (BitVec.slt 0#32 (v (lane k h))) = 1#1 ↔ _
  rw [hv k h]; unfold bit
  by_cases hc : Chosen g (B + k)
  · rw [if_pos hc]; exact ⟨fun _ => hc, fun _ => by decide⟩
  · rw [if_neg hc]; exact ⟨fun h => absurd h (by decide), fun h => absurd h hc⟩

/-- Sixteen experts' numbers from the `B`-th on. -/
theorem numbered (B k : ℕ) (h : k < 16) :
    IntOp.addi (iota .scVector S16 32 [0] iota_S16_d0_w32_scVector (lane k h)) (BitVec.ofNat 32 B) = BitVec.ofNat 32 (B + k) := by
  have e : iota .scVector S16 32 [0] iota_S16_d0_w32_scVector (lane k h) = BitVec.ofNat 32 k := by
    show BitVec.ofNat 32 (0 * 16 + k) = _
    rw [Nat.zero_mul, Nat.zero_add]
  rw [e]; show BitVec.ofNat 32 k + BitVec.ofNat 32 B = _
  rw [← BitVec.ofNat_add, Nat.add_comm]

/-- The experts' numbers at the flags set, minus one elsewhere. -/
theorem flagsAt_cand {g : IVec S128 32} {B : ℕ} {v : IVec S16 32} (hv : FlagsAt g B v) :
    (select (cmpi .sgt v (broadcast S16 0#32)) (addi (iota .scVector S16 32 [0] iota_S16_d0_w32_scVector) (broadcast S16 (BitVec.ofNat 32 B)))
      (broadcast S16 4294967295#32) : IVec S16 32) = cand g B := by
  funext x
  obtain ⟨k, h, rfl⟩ := exists_lane x
  show Scalar.select ((cmpi .sgt v (broadcast S16 0#32) : IVec S16 1) (lane k h)) (IntOp.addi (iota .scVector S16 32 [0] iota_S16_d0_w32_scVector (lane k h)) (BitVec.ofNat 32 B)) 4294967295#32 = _
  have e : IntOp.addi (iota .scVector S16 32 [0] iota_S16_d0_w32_scVector (lane k h)) (BitVec.ofNat 32 B) = BitVec.ofNat 32 (B + k) := numbered B k h
  rw [e]; unfold cand Scalar.select
  have := flagsAt_sgt hv k h
  by_cases hc : Chosen g (B + k)
  · exact (if_pos (this.2 hc)).trans (if_pos hc).symm
  · exact (if_neg (fun hh => hc (this.1 hh))).trans (if_neg hc).symm

/-- The largest chosen expert of sixteen, as the scan gives it. -/
theorem flagsAt_top {g : IVec S128 32} {B : ℕ} {u : IVec S16 32} (hu : u = cand g B) (h) :
    extractAt ![15] (xori (scan .max (xori u (broadcast S16 2147483648#32))) (broadcast S16 2147483648#32)) h = top16 g B := by
  subst hu; rw [extract_last]; rfl

/-- The count carried over sixteen flags. -/
theorem flagsAt_carry {g : IVec S128 32} {B : ℕ} {v : IVec S16 32} (hv : FlagsAt g B v) {c : BitVec 32} (hc : c = BitVec.ofNat 32 (rank g B)) (h) :
    Scalar.addi c (extractAt ![15] (scan .sum v) h) = BitVec.ofNat 32 (rank g (B + 16)) := by
  rw [extract_last]; exact carry_bits (Chosen g) B v hv c hc

/-- The ranks of the third sixteen experts, from the count `c` of the chosen ones before them. -/
theorem ranks_third {g : IVec S128 32} {c : BitVec 32} {v : IVec S16 32} (hv : FlagsAt g 32 v) (hc : c = BitVec.ofNat 32 (rank g 32)) :
    ∀ j h, k1_pay29 (F := F) c v (lane j h) = BitVec.ofNat 32 (rank g (32 + j)) := excl_scan_bits (Chosen g) 32 v hv c hc

/-- The ranks of the fourth sixteen experts, from the count `c` before the third. -/
theorem ranks_fourth {g : IVec S128 32} {c : BitVec 32} {u v : IVec S16 32} (hu : FlagsAt g 32 u) (hv : FlagsAt g 48 v)
    (hc : c = BitVec.ofNat 32 (rank g 32)) : ∀ j h, k1_pay32 (F := F) c u v (lane j h) = BitVec.ofNat 32 (rank g (48 + j)) :=
  excl_scan_bits (Chosen g) 48 v hv _ (flagsAt_carry hu hc inpos_S16_p15)

/-- The experts' numbers of a vector of sixteen. -/
abbrev lanes16 : IVec S16 32 := iota .scVector S16 32 [0] iota_S16_d0_w32_scVector

/-- The largest chosen expert of the first sixteen. -/
theorem top_first {g : IVec S128 32} {v : IVec S16 32} (hv : FlagsAt g 0 v) :
    extractAt ![15] (k1_pay22 (F := F) v) inpos_S16_p15 = top16 g 0 := flagsAt_top (flagsAt_cand hv) _

/-- The largest chosen expert of the second sixteen. -/
theorem top_second {g : IVec S128 32} {v : IVec S16 32} (hv : FlagsAt g 16 v) :
    extractAt ![15] (k1_pay28 (k1_pay25 (F := F) v) k1_pay26 k1_pay27) inpos_S16_p15 = top16 g 16 := flagsAt_top (flagsAt_cand hv) _

/-- The largest chosen expert of the third sixteen. -/
theorem top_third {g : IVec S128 32} {v : IVec S16 32} (hv : FlagsAt g 32 v) :
    extractAt ![15] (k1_pay31 (F := F) lanes16 v) inpos_S16_p15 = top16 g 32 := flagsAt_top (flagsAt_cand hv) _

/-- The word that the list is filled with, from the largest chosen expert of the first 48 and the last sixteen flags. -/
theorem fill_word {g : IVec S128 32} {c : BitVec 32} {v : IVec S16 32}
    (hc : c = Scalar.maxsi (Scalar.maxsi (Scalar.maxsi 0#32 (top16 g 0)) (top16 g 16)) (top16 g 32)) (hv : FlagsAt g 48 v) :
    k1_pay35 lanes16 c (k1_pay34 (F := F) v) 48#32 = broadcast S16 (fill g) := by
  subst hc
  have e := flagsAt_top (flagsAt_cand hv) inpos_S16_p15
  unfold k1_pay35 k1_pay34
  change broadcast S16 (Scalar.maxsi _ (extractAt ![15] (xori (scan .max (xori (select (cmpi .sgt v (broadcast S16 0#32)) (addi lanes16 (broadcast S16 48#32))
      (broadcast S16 4294967295#32)) (broadcast S16 2147483648#32))) (broadcast S16 2147483648#32)) inpos_S16_p15)) = _
  rw [e]
  unfold fill
  rfl

/-- The three later stores of the filling word store the same vector. -/
theorem fill_word₁ {u w : IVec S16 32} {c k : BitVec 32} {b : IVec S16 1} (h : k1_pay35 u c b k = w) : k1_pay36 u c b k = w := h
theorem fill_word₂ {u w : IVec S16 32} {c k : BitVec 32} {b : IVec S16 1} (h : k1_pay35 u c b k = w) : k1_pay37 u c b k = w := h
theorem fill_word₃ {u w : IVec S16 32} {c k : BitVec 32} {b : IVec S16 1} (h : k1_pay35 u c b k = w) : k1_pay38 u c b k = w := h

/-- The scatter into the flag vector at the head of a program. -/
theorem wp_scatter_flags (g : IVec S128 32) (n : ℕ) {i ones : IVec S16 32} {mask : IVec S16 1} (hi : ∀ k h, i (lane k h) = clampW (word g (n + k)))
    (hm : ∀ x, mask x = 1#1) (ho : ∀ x, ones x = 1#32)
    {h : ∀ a x, ((![i] : Fin 1 → IVec S16 32) a x).toNat < S64.size a} {hs : (scrB.access (.whole S64)).Stores Finset.univ}
    {α : Type} {Q : α → sProp 𝕄} {k : PUnit → Prog (TpuEff nD τ sig (Elt F) Λ₀ (.scVector (cV L) (jV L))) α} :
    (scrB.view.loc (V d (cV L) (jV L)) ↦{fullShare} flags g n)
      ⊢ iprop(((scrB.view.loc (V d (cV L) (jV L)) ↦{fullShare} flags g (n + 16))
          -∗ wp frame (wpE (defs₀ (F := F)) 𝒱₀ (V d (cV L) (jV L)) none) Set.univ (k ⟨⟩) Q)
        -∗ wp frame (wpE (defs₀ (F := F)) 𝒱₀ (V d (cV L) (jV L)) none) Set.univ (SparseCore.vectorStoreIdx scrB ![i] ones mask false h hs >>= k) Q) := by
  have hset : (scrB.access (.whole S64)).set = Finset.univ := Memref.set_access_whole (cc1_scratch1 : Ref sig .scVector)
  have hw := SparseCore.wp_vectorStoreIdx (defs := defs₀ (F := F)) 𝒱₀ (V d (cV L) (jV L)) none Set.univ (base := scrB) (idxs := ![i]) (v := ones)
    (mask := mask) (add := false) (h := h) (hs := hs) (k := k) (Q := Q) (f := flags g n)
  have e : (scrB.access (.whole S64)).write (Elt F) (flags g n) (storeIdx ((scrB.access (.whole S64)).read (Elt F) (flags g n)) ![i] ones mask false h) Finset.univ
      = flags g (n + 16) := by
    have hr : (scrB.access (.whole S64)).read (Elt F) (flags g n) = flags g n := Memref.read_access_whole (Elt F) (cc1_scratch1 : Ref sig .scVector) _
    rw [hr]
    refine (Memref.write_access_whole_univ (Elt F) (cc1_scratch1 : Ref sig .scVector) _ _).trans ?_
    exact flags_step (F := F) g n (fun x => word g (n + (x 0).val)) i ones mask (fun _ _ => rfl)
      (fun x => by obtain ⟨k, hk, rfl⟩ := exists_lane x; exact hi k hk) hm ho h
  rw [e, hset] at hw
  exact hw

/-- The scatter into the list at the head of a program. -/
theorem wp_scatter_list (g : IVec S128 32) (f : IVec S80 32) (n : ℕ) (hn : n + 16 ≤ 64) {i v : IVec S16 32} {mask : IVec S16 1}
    (hi : ∀ k h, i (lane k h) = BitVec.ofNat 32 (rank g (n + k))) (hv : ∀ k h, v (lane k h) = BitVec.ofNat 32 (n + k))
    (hm : ∀ k h, mask (lane k h) = 1#1 ↔ Chosen g (n + k))
    {h : ∀ a x, ((![i] : Fin 1 → IVec S16 32) a x).toNat < S80.size a} {hs : (scrC.access (.whole S80)).Stores Finset.univ}
    {α : Type} {Q : α → sProp 𝕄} {k : PUnit → Prog (TpuEff nD τ sig (Elt F) Λ₀ (.scVector (cV L) (jV L))) α} :
    (scrC.view.loc (V d (cV L) (jV L)) ↦{fullShare} listed g f n)
      ⊢ iprop(((scrC.view.loc (V d (cV L) (jV L)) ↦{fullShare} listed g f (n + 16))
          -∗ wp frame (wpE (defs₀ (F := F)) 𝒱₀ (V d (cV L) (jV L)) none) Set.univ (k ⟨⟩) Q)
        -∗ wp frame (wpE (defs₀ (F := F)) 𝒱₀ (V d (cV L) (jV L)) none) Set.univ (SparseCore.vectorStoreIdx scrC ![i] v mask false h hs >>= k) Q) := by
  have hset : (scrC.access (.whole S80)).set = Finset.univ := Memref.set_access_whole (cc1_scratch2 : Ref sig .scVector)
  have hw := SparseCore.wp_vectorStoreIdx (defs := defs₀ (F := F)) 𝒱₀ (V d (cV L) (jV L)) none Set.univ (base := scrC) (idxs := ![i]) (v := v)
    (mask := mask) (add := false) (h := h) (hs := hs) (k := k) (Q := Q) (f := listed g f n)
  have e : (scrC.access (.whole S80)).write (Elt F) (listed g f n) (storeIdx ((scrC.access (.whole S80)).read (Elt F) (listed g f n)) ![i] v mask false h) Finset.univ
      = listed g f (n + 16) := by
    have hr : (scrC.access (.whole S80)).read (Elt F) (listed g f n) = listed g f n := Memref.read_access_whole (Elt F) (cc1_scratch2 : Ref sig .scVector) _
    rw [hr]
    refine (Memref.write_access_whole_univ (Elt F) (cc1_scratch2 : Ref sig .scVector) _ _).trans ?_
    exact listed_step (F := F) g f n hn i v mask hi hv hm h
  rw [e, hset] at hw
  exact hw

/-- What the fetch brings is the words. -/
theorem fetched (fa g : IVec S128 32) :
    scrA.view.write (Elt F) fa (wordsV.view.read (Elt F) g) Finset.univ = g := by
  refine (View.write_whole_univ (Val := Elt F) (cc1_scratch0 : Ref sig .scVector) fa _).trans ?_
  funext y
  simp only [Memref.view_whole, View.read_whole]

theorem read_scrB (f : IVec S64 32) (y : S64.Idx) : scrB.view.read (Elt F) f y = f y := by
  simp only [Memref.view_whole, View.read_whole]

theorem read_scrC (f : IVec S80 32) (y : S80.Idx) : scrC.view.read (Elt F) f y = f y := by
  simp only [Memref.view_whole, View.read_whole]

/-- Four stores of zeros clear the flags. -/
theorem zeroed (g : IVec S128 32) (fb : IVec S64 32) :
    scrB.view.writes (Elt F) fb
      [⟨Rect.unit ![48] S16.size inb_S64_S16_48, k1_pay1⟩, ⟨Rect.unit ![32] S16.size inb_S64_S16_32, k1_pay1⟩,
        ⟨Rect.unit ![16] S16.size inb_S64_S16_16, k1_pay1⟩, ⟨Rect.unit ![0] S16.size inb_S64_S16_0, k1_pay1⟩] = flags g 0 := by
  rw [flags_zero]
  funext y
  refine (read_scrB (F := F) _ y).symm.trans ?_
  refine View.read_writes_apply_of_pieces (Val := Elt F) scrB.view fb (fun _ => (0#32 : BitVec 32)) _ ?_ y (View.cover_of_tiled _ ![16] (by sl_kernel_rfl) y)
  intro p hp x
  simp only [List.mem_cons, List.not_mem_nil, _root_.or_false] at hp
  rcases hp with rfl | rfl | rfl | rfl <;> rfl

/-- Four stores of one word fill the first 64 entries of the list. -/
theorem filled (w : BitVec 32) {v0 v1 v2 v3 : IVec S16 32} (h0 : v0 = broadcast S16 w) (h1 : v1 = broadcast S16 w) (h2 : v2 = broadcast S16 w)
    (h3 : v3 = broadcast S16 w) (fc : IVec S80 32) :
    scrC.view.writes (Elt F) fc
      [⟨Rect.unit ![48] S16.size inb_S80_S16_48, v3⟩, ⟨Rect.unit ![32] S16.size inb_S80_S16_32, v2⟩,
        ⟨Rect.unit ![16] S16.size inb_S80_S16_16, v1⟩, ⟨Rect.unit ![0] S16.size inb_S80_S16_0, v0⟩]
      = fun x => if (x 0).val < 64 then w else fc x := by
  subst h0 h1 h2 h3
  funext y
  by_cases hy : (y 0).val < 64
  · rw [if_pos hy]
    refine (read_scrC (F := F) _ y).symm.trans ?_
    refine View.read_writes_apply_of_pieces (Val := Elt F) scrC.view fc (fun _ => w) _ ?_ y ?_
    · intro p hp x
      simp only [List.mem_cons, List.not_mem_nil, _root_.or_false] at hp
      rcases hp with rfl | rfl | rfl | rfl <;> rfl
    · have key : ∀ (n : ℕ) (inb : ∀ a, (![n] : Fin 1 → ℕ) a + S16.size a ≤ S80.size a), n ≤ (y 0).val → (y 0).val < n + 16 →
          y ∈ (Rect.unit (s := S80) ![n] S16.size inb).set := fun n inb h1 h2 => by
        rw [Rect.mem_set_unit]
        intro a; rw [Subsingleton.elim a 0]
        exact ⟨h1, h2⟩
      rcases Nat.lt_or_ge (y 0).val 16 with h | h
      · exact ⟨_, List.mem_cons_of_mem _ (List.mem_cons_of_mem _ (List.mem_cons_of_mem _ List.mem_cons_self)), key 0 inb_S80_S16_0 (by omega) (by omega)⟩
      rcases Nat.lt_or_ge (y 0).val 32 with h' | h'
      · exact ⟨_, List.mem_cons_of_mem _ (List.mem_cons_of_mem _ List.mem_cons_self), key 16 inb_S80_S16_16 h (by omega)⟩
      rcases Nat.lt_or_ge (y 0).val 48 with h'' | h''
      · exact ⟨_, List.mem_cons_of_mem _ List.mem_cons_self, key 32 inb_S80_S16_32 h' (by omega)⟩
      · exact ⟨_, List.mem_cons_self, key 48 inb_S80_S16_48 h'' (by omega)⟩
  · rw [if_neg hy]
    refine (read_scrC (F := F) _ y).symm.trans ?_
    refine (View.read_writes_apply_of_forall_not_mem (Val := Elt F) scrC.view fc y _ ?_).trans (read_scrC (F := F) fc y)
    intro p hp
    simp only [List.mem_cons, List.not_mem_nil, _root_.or_false] at hp
    rcases hp with rfl | rfl | rfl | rfl <;>
      exact Rect.not_mem_set_of_axis _ y 0 _ 16 rfl rfl rfl (Or.inr (by show _ ≤ (y 0).val; simp; omega))

/-- What the list's copy out leaves. -/
theorem stored (fl : IVec S80 32) {f h : IVec S80 32} (e : f = h) :
    listV.view.write (Elt F) fl (scrC.view.read (Elt F) f) Finset.univ = h := by
  subst e
  refine (View.write_whole_univ (Val := Elt F) (main_v3_scv : Ref sig .scVector) fl _).trans ?_
  funext y
  exact read_scrC f y

/-- The count stored after the list. -/
theorem counted (g : IVec S128 32) (v : IVec S16 32) (hv : v = broadcast S16 (BitVec.ofNat 32 (rank g 64))) (fc : IVec S80 32) :
    scrC.view.writes (Elt F) (listed g (fun x => if (x 0).val < 64 then fill g else fc x) 64) [⟨Rect.unit ![64] S16.size inb_S80_S16_64, v⟩] = dispatch g := by
  subst hv
  funext y
  unfold dispatch
  by_cases hy : (y 0).val < 64
  · rw [if_pos hy]
    refine (read_scrC (F := F) _ y).symm.trans ?_
    refine (View.read_writes_cons_miss_of_axis (Val := Elt F) scrC.view _ _ [] y 0 64 16 rfl rfl rfl (Or.inl hy)).trans ?_
    refine (read_scrC (F := F) _ y).trans ?_
    show listed g _ 64 y = _
    unfold listed
    split_ifs
    · rfl
    · exact if_pos hy
  · rw [if_neg hy]
    have hlt : (y 0).val < 80 := (y 0).isLt
    refine (read_scrC (F := F) _ y).symm.trans ?_
    refine View.read_writes_cons_hit_of_coords (Val := Elt F) scrC.view _ (Rect.unit ![64] S16.size inb_S80_S16_64) _ []
      (lane ((y 0).val - 64) (by omega)) y (fun a => ?_)
    rw [Subsingleton.elim a 0]
    show (y 0).val = 64 + 1 * ((y 0).val - 64)
    omega

set_option maxHeartbeats 4000000 in
theorem tile_run (hF : (K (F := F)).Facts) (h0 : k1_cond1 L = 1#1) (g : IVec S128 32) (fl : IVec S80 32)
    (O : CellTallies nD τ sig (HIx 1)) (W : Waits sig (HIx 1)) (hO : ∀ g, O g none = 0) :
    iprop(levAts (K (F := F)).L (K (F := F)).lev ∗ ((v2Loc d ↦{fullShare} g) ∗ (v3Loc d ↦{fullShare} fl))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1__dispatch_body L wordsV (Memref.isWhole_whole _) listV (Memref.isWhole_whole _) scrA (Memref.isWhole_whole _)
            scrB (Memref.isWhole_whole _) scrC (Memref.isWhole_whole _) cc1_scratch3 cc1_scoped0)
          fun _ => iprop(((v2Loc d ↦{fullShare} g) ∗ (v3Loc d ↦{fullShare} dispatch g))
            ∗ scopedBufs (V d (cV L) (jV L)) ∗ scopedSems0 (V d (cV L) (jV L))
            ∗ ∃ W', ⌜∀ p ∈ W', p ∈ W ∨ p.2 = none⌝ ∗ owes (V d (cV L) (jV L)) O W' : sProp 𝕄) := by
  simp only [cc1__dispatch_body_eq_skeleton]; unfold cc1__dispatch_body_skel
  rw [dif_pos h0]
  simp only [k1_part1_eq_skeleton, k1_part2_eq_skeleton, k1_part3_eq_skeleton, k1_part4_eq_skeleton, k1_part5_eq_skeleton]
  unfold k1_part1_skel k1_part2_skel k1_part3_skel k1_part4_skel k1_part5_skel
  simp only [bind_assoc, pure_bind]
  rw [(K (F := F)).scopedBufs_V hF d (cV L) (jV L), SparseCore.Cfg.scopedSems0_V (Val := Elt F) d (cV L) (jV L), ownSems0_tile, ownBufs_tile]
  iintro ⟨#Hlv, ⟨Hw, Hl⟩, ⟨⟨%fa, Ha⟩, ⟨%fb, Hb⟩, ⟨%fc, Hc⟩, Hbufs⟩, ⟨HsemI, HsemO, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hw := (Entails.of_eq (show ((v2Loc d ↦{fullShare} g : sProp 𝕄)) = wordsV.view.loc (V d (cV L) (jV L)) ↦{fullShare} g from rfl)) $$ Hw
  ihave Hl := (Entails.of_eq (show ((v3Loc d ↦{fullShare} fl : sProp 𝕄)) = listV.view.loc (V d (cV L) (jV L)) ↦{fullShare} fl from rfl)) $$ Hl
  ihave Ha := (Entails.of_eq (show (((V d (cV L) (jV L)).loc cc1_scratch0 ↦{fullShare} fa : sProp 𝕄)) = scrA.view.loc (V d (cV L) (jV L)) ↦{fullShare} fa from rfl)) $$ Ha
  ihave Hb := (Entails.of_eq (show (((V d (cV L) (jV L)).loc cc1_scratch1 ↦{fullShare} fb : sProp 𝕄)) = scrB.view.loc (V d (cV L) (jV L)) ↦{fullShare} fb from rfl)) $$ Hb
  ihave Hc := (Entails.of_eq (show (((V d (cV L) (jV L)).loc cc1_scratch2 ↦{fullShare} fc : sProp 𝕄)) = scrC.view.loc (V d (cV L) (jV L)) ↦{fullShare} fc from rfl)) $$ Hc
  sl_exec
  have hA : View.write (Elt F) scrA.view fa (tile_run.sl.dma0 g) Finset.univ = g := fetched (F := F) fa g
  ihave Ha := (Entails.of_eq (congrArg (fun z => ((scrA.view.loc (V d (cV L) (jV L)) ↦{fullShare} z) : sProp 𝕄)) hA)) $$ Ha
  ihave Hb := (Entails.of_eq (congrArg (fun z => ((scrB.view.loc (V d (cV L) (jV L)) ↦{fullShare} z) : sProp 𝕄)) (zeroed (F := F) g fb))) $$ Hb
  rw [wp_assume_of _ _ _ _ (show k1_chk1 L (k1_pay3 _) from fun _ => clamp_inb _ (fun x => ⟨_, rfl⟩))]
  iapply (wp_scatter_flags d L g 0 (i := k1_pay3 _) (ones := k1_pay2) (mask := k1_pay4) (fun k h => (congrArg clampW (load_words (F := F) _ _ _ k h)).trans
    (congrArg (fun z => clampW (word z (0 + k))) hA))
    (fun _ => by rfl) (fun _ => rfl)) $$ Hb
  iintro Hb
  sl_exec
  rw [wp_assume_of _ _ _ _ (show k1_chk2 L (k1_pay5 _) from fun _ => clamp_inb _ (fun x => ⟨_, rfl⟩))]
  iapply (wp_scatter_flags d L g 16 (i := k1_pay5 _) (ones := k1_pay2) (mask := k1_pay6) (fun k h => congrArg clampW (load_words (F := F) _ _ _ k h))
    (fun _ => by rfl) (fun _ => rfl)) $$ Hb
  iintro Hb
  sl_exec
  rw [wp_assume_of _ _ _ _ (show k1_chk3 L (k1_pay7 _) from fun _ => clamp_inb _ (fun x => ⟨_, rfl⟩))]
  iapply (wp_scatter_flags d L g 32 (i := k1_pay7 _) (ones := k1_pay2) (mask := k1_pay8) (fun k h => congrArg clampW (load_words (F := F) _ _ _ k h))
    (fun _ => by rfl) (fun _ => rfl)) $$ Hb
  iintro Hb
  sl_exec
  rw [wp_assume_of _ _ _ _ (show k1_chk4 L (k1_pay9 _ 0#32) from fun _ => clamp_inb _ (fun x => ⟨_, rfl⟩))]
  iapply (wp_scatter_flags d L g 48 (i := k1_pay9 _ 0#32) (ones := k1_pay2) (mask := k1_pay10 k1_pay2) (fun k h => congrArg clampW (load_words (F := F) _ _ _ k h))
    (fun _ => by rfl) (fun _ => rfl)) $$ Hb
  iintro Hb
  sl_exec
  rw [wp_assume_of _ _ _ _ (show k1_chk5 L (k1_pay11 _) from fun _ => clamp_inb _ (fun x => ⟨_, rfl⟩))]
  iapply (wp_scatter_flags d L g 64 (i := k1_pay11 _) (ones := k1_pay2) (mask := k1_pay12 k1_pay2) (fun k h => congrArg clampW (load_words (F := F) _ _ _ k h))
    (fun _ => by rfl) (fun _ => rfl)) $$ Hb
  iintro Hb
  sl_exec
  rw [wp_assume_of _ _ _ _ (show k1_chk6 L (k1_pay13 _) from fun _ => clamp_inb _ (fun x => ⟨_, rfl⟩))]
  iapply (wp_scatter_flags d L g 80 (i := k1_pay13 _) (ones := k1_pay2) (mask := k1_pay14 k1_pay2) (fun k h => congrArg clampW (load_words (F := F) _ _ _ k h))
    (fun _ => by rfl) (fun _ => rfl)) $$ Hb
  iintro Hb
  sl_exec
  rw [wp_assume_of _ _ _ _ (show k1_chk7 L (k1_pay15 _) from fun _ => clamp_inb _ (fun x => ⟨_, rfl⟩))]
  iapply (wp_scatter_flags d L g 96 (i := k1_pay15 _) (ones := k1_pay2) (mask := k1_pay16 k1_pay2) (fun k h => congrArg clampW (load_words (F := F) _ _ _ k h))
    (fun _ => by rfl) (fun _ => rfl)) $$ Hb
  iintro Hb
  sl_exec
  rw [wp_assume_of _ _ _ _ (show k1_chk8 L (k1_pay17 _) from fun _ => clamp_inb _ (fun x => ⟨_, rfl⟩))]
  iapply (wp_scatter_flags d L g 112 (i := k1_pay17 _) (ones := k1_pay2) (mask := k1_pay19 k1_pay2 k1_pay18) (fun k h => congrArg clampW (load_words (F := F) _ _ _ k h))
    (fun _ => by rfl) (fun _ => rfl)) $$ Hb
  iintro Hb
  sl_exec
  have F0 := flagsAt_load (F := F) g 0 inb_S64_S16_0
  have F1 := flagsAt_load (F := F) g 16 inb_S64_S16_16
  have F2 := flagsAt_load (F := F) g 32 inb_S64_S16_32
  have F3 := flagsAt_load (F := F) g 48 inb_S64_S16_48
  have c0 : 0#32 = BitVec.ofNat 32 (rank g 0) := rfl
  have c1 := show Scalar.addi _ (extractAt ![15] (k1_pay21 _) inpos_S16_p15) = BitVec.ofNat 32 (rank g 16) from flagsAt_carry F0 c0 inpos_S16_p15
  have c2 := show Scalar.addi _ (extractAt ![15] (k1_pay24 _) inpos_S16_p15) = BitVec.ofNat 32 (rank g 32) from flagsAt_carry F1 c1 inpos_S16_p15
  have c3 := show Scalar.addi _ (extractAt ![15] (k1_pay30 _) inpos_S16_p15) = BitVec.ofNat 32 (rank g 48) from flagsAt_carry F2 c2 inpos_S16_p15
  have c4 := show Scalar.addi _ (extractAt ![15] (k1_pay33 _) inpos_S16_p15) = BitVec.ofNat 32 (rank g 64) from flagsAt_carry F3 c3 inpos_S16_p15
  have r0 := excl_scan_bits (Chosen g) 0 _ F0 _ c0
  have r1 := excl_scan_bits (Chosen g) 16 _ F1 _ c1
  have r2 := ranks_third (F := F) F2 c2
  have r3 := ranks_fourth (F := F) F2 F3 c2
  have hfill := fill_word (F := F) (congrArg₂ Scalar.maxsi (congrArg₂ Scalar.maxsi (congrArg (Scalar.maxsi 0#32) (top_first (F := F) F0))
    (top_second (F := F) F1)) (top_third (F := F) F2)) F3
  rw [wp_assume_of _ _ _ _ (show k1_chk9 L (k1_pay20 _) from fun _ => rank_inb g 0 (by omega) _ r0)]
  sl_exec
  rw [wp_assume_of _ _ _ _ (show k1_chk10 L (k1_pay23 _ _) from fun _ => rank_inb g 16 (by omega) _ r1)]
  sl_exec
  rw [wp_assume_of _ _ _ _ (show k1_chk11 L _ from fun _ => rank_inb g 32 (by omega) _ r2)]
  sl_exec
  rw [wp_assume_of _ _ _ _ (show k1_chk12 L _ from fun _ => rank_inb g 48 (by omega) _ r3)]
  sl_exec
  ihave Hc := (Entails.of_eq (congrArg (fun z => ((scrC.view.loc (V d (cV L) (jV L)) ↦{fullShare} z) : sProp 𝕄))
    ((filled (F := F) (fill g) (v0 := k1_pay35 _ _ _ _) (v1 := k1_pay36 _ _ _ _) (v2 := k1_pay37 _ _ _ _) (v3 := k1_pay38 _ _ _ _)
      hfill (fill_word₁ hfill) (fill_word₂ hfill) (fill_word₃ hfill) fc).trans
      (listed_zero g _).symm))) $$ Hc
  iapply (wp_scatter_list d L g _ 0 (by omega) (i := k1_pay20 _) (v := k1_pay39 _) (mask := k1_pay40 _) r0 (numbered 0) (flagsAt_sgt F0)) $$ Hc
  iintro Hc
  iapply (wp_scatter_list d L g _ 16 (by omega) (i := k1_pay23 _ _) (v := k1_pay41 _) (mask := k1_pay42 _) r1 (numbered 16) (flagsAt_sgt F1)) $$ Hc
  iintro Hc
  iapply (wp_scatter_list d L g _ 32 (by omega) (i := k1_pay29 _ _) (v := k1_pay43 _) (mask := k1_pay44 _) r2 (numbered 32) (flagsAt_sgt F2)) $$ Hc
  iintro Hc
  iapply (wp_scatter_list d L g _ 48 (by omega) (i := k1_pay32 _ _ _) (v := k1_pay45 _) (mask := k1_pay46 _) r3 (numbered 48) (flagsAt_sgt F3)) $$ Hc
  iintro Hc
  sl_exec
  have hL : View.write (Elt F) listV.view fl (tile_run.sl.dma2 d L g fc) Finset.univ = dispatch g :=
    stored (F := F) fl (counted (F := F) g _ (congrArg (broadcast S16) c4) fc)
  ihave Hl := (Entails.of_eq (congrArg (fun z => ((listV.view.loc (V d (cV L) (jV L)) ↦{fullShare} z) : sProp 𝕄)) hL)) $$ Hl
  sl_step
  isplitl [Hw Hl]
  · isplitl [Hw]; · iexact Hw
    iexact Hl
  isplitl [Ha Hb Hc Hbufs]
  · isplitl [Ha]; · iexists _; iexact Ha
    isplitl [Hb]; · iexists _; iexact Hb
    isplitl [Hc]; · iexists _; iexact Hc
    iexact Hbufs
  isplitl [HsemI HsemO Hsems]
  · isplitl [HsemI]; · iexact HsemI
    isplitl [HsemO]; · iexact HsemO
    iexact Hsems
  iexists _
  isplitr [HO]
  rotate_left
  · iexact HO
  · ipureintro
    intro p hp
    rcases Finset.mem_insert.1 hp with rfl | hp
    · exact Or.inr rfl
    rcases Finset.mem_insert.1 hp with rfl | hp
    · exact Or.inr rfl
    exact Or.inl hp

/-- A tile other than the first does nothing. -/
theorem tile_idle (h0 : k1_cond1 L ≠ 1#1) :
    (cc1__dispatch_body (F := F) L wordsV (Memref.isWhole_whole _) listV (Memref.isWhole_whole _) scrA (Memref.isWhole_whole _) scrB (Memref.isWhole_whole _)
        scrC (Memref.isWhole_whole _) cc1_scratch3 cc1_scoped0)
      = Prog.ret ⟨⟩ := by
  simp only [cc1__dispatch_body_eq_skeleton]
  unfold cc1__dispatch_body_skel
  rw [dif_neg h0]
  rfl

end Cert.Proof

end
-- ==== Proof.Handshake.lean ====
/-
  The call on the sparse cores, as the launch sees it: what it hands to each tile and gets back, and each tile's run from that.
-/
module

public import proofs.«01_k».proof.Proof.Tile

@[expose] public section

set_option maxRecDepth 16384

noncomputable section

namespace Cert.Proof

open Cert.KernelIdeal Cert.KernelIdeal.Gen
open Idealize.ShloMosaic Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig (HIx 1) (Elt F) ℕ UU ℕ

open Idealize.ShloMosaic.SparseCore (S V T)

/-! ## What the call hands over

The chosen experts' words and the list's buffer go to the first sparse core and from it to its first tile, which is the one
that works; the other tiles are handed nothing. -/

/-- `A` for the one place that works, nothing for the others. -/
def only (p : Prop) [Decidable p] (A : sProp 𝕄) : sProp 𝕄 := if p then A else iprop(emp)

theorem only_pos {p : Prop} [Decidable p] (h : p) (A : sProp 𝕄) : only p A = A := if_pos h
theorem only_neg {p : Prop} [Decidable p] (h : ¬p) (A : sProp 𝕄) : only p A = iprop(emp) := if_neg h

instance only_storable (p : Prop) [Decidable p] (A : sProp 𝕄) [BI.Storable (upEmb : UEmb _ 𝕄) A] :
    BI.Storable (upEmb : UEmb _ 𝕄) (only p A) := by
  unfold only; split_ifs <;> infer_instance

/-- Over all the places, only the first of which has `A`, there is `A`. -/
theorem only_first {n : ℕ} (h : 0 < n) (A : sProp 𝕄) : (bigSep Finset.univ fun i : Fin n => only (i.val = 0) A) = A := by
  rw [bigSep_erase (Finset.mem_univ (⟨0, h⟩ : Fin n)), only_pos (p := (⟨0, h⟩ : Fin n).val = 0) rfl,
    bigSep_congr (Ψ := fun _ => iprop(emp)) fun i hi => only_neg (fun e => (Finset.mem_erase.mp hi).1 (Fin.ext e)) A,
    show (bigSep (Finset.univ.erase (⟨0, h⟩ : Fin n)) fun _ => (iprop(emp) : sProp 𝕄)) = iprop(emp) from bigSep_emp_const _]
  exact equiv_iff.mp BI.sep_emp

variable (g : (d : Dev nD) → Buf (Elt F) (v2Loc d)) (fl : (d : Dev nD) → Buf (Elt F) (v3Loc d))

/-- The words and the list's buffer before the call. -/
abbrev given (d : Dev nD) : sProp 𝕄 := iprop((v2Loc d ↦{fullShare} g d) ∗ (v3Loc d ↦{fullShare} fl d))
/-- The words and the list after it. -/
abbrev brought (d : Dev nD) : sProp 𝕄 := iprop((v2Loc d ↦{fullShare} g d) ∗ (v3Loc d ↦{fullShare} (dispatch (g d) : IVec S80 32)))

/-- What the call's handshakes carry. -/
def P : (K (F := F)).Pay (nD := nD) (Val := Elt F) (Name := ℕ) (U := UU) where
  st := fun q d c => match q with | 0 => only (c.val = 0) (given g fl d)
  dn := fun q d c => match q with | 0 => only (c.val = 0) (brought g d)
  go := fun q d c i => match q with | 0 => only (c.val = 0) (only (i.val = 0) (given g fl d))
  td := fun q d c i => match q with | 0 => only (c.val = 0) (only (i.val = 0) (brought g d))
  x := fun _ _ => iprop(emp)

instance P_storable : (P (F := F) g fl).IsStorable where
  st q d c := match q with | 0 => (inferInstance : BI.Storable (upEmb : UEmb _ 𝕄) (only (c.val = 0) (given g fl d)))
  dn q d c := match q with | 0 => (inferInstance : BI.Storable (upEmb : UEmb _ 𝕄) (only (c.val = 0) (brought g d)))
  go q d c i := match q with | 0 => (inferInstance : BI.Storable (upEmb : UEmb _ 𝕄) (only (c.val = 0) (only (i.val = 0) (given g fl d))))
  td q d c i := match q with | 0 => (inferInstance : BI.Storable (upEmb : UEmb _ 𝕄) (only (c.val = 0) (only (i.val = 0) (brought g d))))

/-- A sparse core's part and its tiles' parts are the same. -/
theorem vecSplit : (K (F := F)).VecSplit' (P g fl) 0 := by
  intro d c
  show only (c.val = 0) (given g fl d) ⊢ |={Set.univ}=> iprop(
      (bigSep Finset.univ fun i : Fin ((K (F := F)).nSub 0) => only (c.val = 0) (only (i.val = 0) (given g fl d)))
      ∗ ((bigSep Finset.univ fun i : Fin ((K (F := F)).nSub 0) => only (c.val = 0) (only (i.val = 0) (brought g d)))
          -∗ only (c.val = 0) (brought g d)))
  by_cases h : c.val = 0
  · simp only [only_pos h]
    rw [only_first (by decide), only_first (by decide)]
    iintro H; imodintro
    isplitl [H]; · iexact H
    iintro H; iexact H
  · simp only [only_neg h]
    rw [show (bigSep Finset.univ fun _ : Fin ((K (F := F)).nSub 0) => (iprop(emp) : sProp 𝕄)) = iprop(emp) from bigSep_emp_const _]
    iintro H; imodintro
    isplitl [H]; · iexact H
    iintro H; iexact H

/-! ## The tiles -/

/-- The place of tile `s` of sparse core `c` in the call's grid. -/
def tileAt (c : Fin (grid1.bound 0)) (s : Fin (grid1.bound 1)) : grid1.Coords :=
  fun | 0 => c | 1 => s | ⟨_ + 2, h⟩ => absurd h (Nat.not_lt.2 (Nat.le_add_left _ _))

/-- The body works at the first tile of the first sparse core, and at no other. -/
theorem works_iff : ∀ (c : Fin (grid1.bound 0)) (s : Fin (grid1.bound 1)), (k1_cond1 (tileAt c s) = 1#1) = (c.val = 0 ∧ s.val = 0) := by
  have h : ∀ (c : Fin 2) (s : Fin 16), (k1_cond1 (tileAt c s) = 1#1) ↔ (c.val = 0 ∧ s.val = 0) := by decide +kernel
  exact fun c s => propext (h c s)

theorem defs₀_tile (c : Fin τ.nSC) (s : Fin τ.nSub) :
    defs₀ (F := F) (.scVector c s) 1 ()
      = SparseCore.onTile hcore1 hsub1 (fun c s => cc1__dispatch_body (tileAt c s)
          wordsV (Memref.isWhole_whole _) listV (Memref.isWhole_whole _) scrA (Memref.isWhole_whole _)
          scrB (Memref.isWhole_whole _) scrC (Memref.isWhole_whole _) cc1_scratch3 cc1_scoped0) ⟨⟩ c s := rfl

/-- A tile's run from its part of the call: the working one writes the list, the others do nothing. -/
theorem tile_part (hF : (K (F := F)).Facts) (d : Dev nD) (c : Fin (grid1.bound 0)) (s : Fin (grid1.bound 1))
    (O : CellTallies nD τ sig (HIx 1)) (W : Waits sig (HIx 1)) (hO : ∀ g, O g none = 0) :
    iprop(levAts (K (F := F)).L (K (F := F)).lev ∗ emp ∗ only (c.val = 0) (only (s.val = 0) (given g fl d))
        ∗ scopedBufs (V d (cV (tileAt c s)) (jV (tileAt c s))) ∗ scopedSems0 (V d (cV (tileAt c s)) (jV (tileAt c s)))
        ∗ owes (V d (cV (tileAt c s)) (jV (tileAt c s))) O W)
      ⊢ wp frame (wpE (defs₀ (F := F)) 𝒱₀ (V d (cV (tileAt c s)) (jV (tileAt c s))) none) Set.univ
          (cc1__dispatch_body (tileAt c s) wordsV (Memref.isWhole_whole _) listV (Memref.isWhole_whole _) scrA (Memref.isWhole_whole _)
            scrB (Memref.isWhole_whole _) scrC (Memref.isWhole_whole _) cc1_scratch3 cc1_scoped0)
          fun _ => iprop(only (c.val = 0) (only (s.val = 0) (brought g d))
            ∗ scopedBufs (V d (cV (tileAt c s)) (jV (tileAt c s))) ∗ scopedSems0 (V d (cV (tileAt c s)) (jV (tileAt c s)))
            ∗ ∃ W', ⌜∀ p ∈ W', p ∈ W ∨ p.2 = none ∨ p.2 = some (0 : Fin 1)⌝ ∗ owes (V d (cV (tileAt c s)) (jV (tileAt c s))) O W' : sProp 𝕄) := by
  by_cases h : c.val = 0 ∧ s.val = 0
  · rw [only_pos h.1, only_pos h.1, only_pos h.2, only_pos h.2]
    iintro ⟨Hlv, -, Hg, Hbufs, Hsems, HO⟩
    ihave Hw := (tile_run d (tileAt c s) hF ((works_iff c s).mpr h) (g d) (fl d) O W hO) $$ [Hlv Hg Hbufs Hsems HO]
    · isplitl [Hlv]; · iexact Hlv
      isplitl [Hg]; · iexact Hg
      isplitl [Hbufs]; · iexact Hbufs
      isplitl [Hsems]; · iexact Hsems
      iexact HO
    iapply (wp_mono frame _ _ fun _ => ?_) $$ Hw
    iintro ⟨Hg, Hbufs, Hsems, %W', %hW', HO⟩
    isplitl [Hg]; · iexact Hg
    isplitl [Hbufs]; · iexact Hbufs
    isplitl [Hsems]; · iexact Hsems
    iexists W'; isplitr
    · ipureintro; exact fun p hp => (hW' p hp).imp_right Or.inl
    · iexact HO
  · have hn : ∀ A : sProp 𝕄, only (c.val = 0) (only (s.val = 0) A) = iprop(emp) := fun A => by
      by_cases hc : c.val = 0
      · rw [only_pos hc, only_neg fun hs => h ⟨hc, hs⟩]
      · rw [only_neg hc]
    rw [hn, hn, tile_idle (tileAt c s) fun e => h ((works_iff c s).mp e), wp_ret]
    iintro ⟨-, -, -, Hbufs, Hsems, HO⟩
    imodintro
    isplitr; · iempintro
    isplitl [Hbufs]; · iexact Hbufs
    isplitl [Hsems]; · iexact Hsems
    iexists W; isplitr
    · ipureintro; exact fun p hp => Or.inl hp
    · iexact HO

theorem tileObl (hF : (K (F := F)).Facts) : (K (F := F)).TileObl (D (F := F)) 𝒱 (P g fl) v₀ 0 := by
  intro d c i O W hO _ _
  simp only [show (P g fl).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_tile]; simp only [SparseCore.onTile, hci, and_self, ↓reduceDIte]
  exact tile_part g fl hF d ⟨_, hci.1⟩ ⟨_, hci.2⟩ O W hO

end Cert.Proof

end
-- ==== Proof.Router.lean ====
/-
  The router kernel on its windows' buffers: what each result's buffer holds when it returns, as a function of the tokens and the
  router weights.
-/
module

public import proofs.«01_k».proof.Proof.Common
public import Idealize.ShloMosaic.Lib.Writes

@[expose] public section

set_option maxRecDepth 16384

noncomputable section

namespace Cert.Proof

open Cert.KernelIdeal Cert.KernelIdeal.Gen
open Idealize.ShloMosaic Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig (HIx 1) (Elt F) ℕ UU ℕ

/-- A window's current staging buffer, held whole at `f`. -/
abbrev held0 (d : Dev nD) {S : Shape} {e : EltTy} (M : Memref sig .tc .vmem S e) (f : Buf (Elt F) (M.view.loc (d : Thread nD τ))) : sProp 𝕄 :=
  M.view.loc (d : Thread nD τ) ↦{fullShare} f

/-- Row `n` of a column of 64. -/
def row (n : Fin 64) : S64x1.Idx := fun | 0 => n | 1 => (0 : Fin 1)

/-- The words the router leaves: the first choices of the 64 tokens, then their second choices. -/
def routed (x w : Vec F S64x768 .f32) : Vec F S128x1 .i32 := fun y =>
  if h : (y 0).val < 64 then k0_pay6 x w (row ⟨(y 0).val, h⟩)
  else k0_pay9 x w (row ⟨(y 0).val - 64, by have : (y 0).val < 128 := (y 0).isLt; omega⟩)

theorem routed_first (x w : Vec F S64x768 .f32) (y : S128x1.Idx) (z : S64x1.Idx) (h : (y 0).val = (z 0).val) :
    routed x w y = k0_pay6 x w z := by
  have hz : (z 0).val < 64 := (z 0).isLt
  unfold routed
  rw [dif_pos (by omega)]
  congr 1
  funext a
  fin_cases a
  · exact Fin.ext h
  · exact Subsingleton.elim (α := Fin 1) _ _

theorem routed_second (x w : Vec F S64x768 .f32) (y : S128x1.Idx) (z : S64x1.Idx) (h : (y 0).val = 64 + (z 0).val) :
    routed x w y = k0_pay9 x w z := by
  unfold routed
  rw [dif_neg (by omega)]
  congr 1
  funext a
  fin_cases a
  · exact Fin.ext (by show (y 0).val - 64 = (z 0).val; omega)
  · exact Subsingleton.elim (α := Fin 1) _ _

theorem off_zero : (![0, 0] : Fin 2 → ℕ) = fun _ => 0 := by funext a; fin_cases a <;> rfl

/-- The kernel from its windows' buffers held whole: it hands back the tokens and the weights as they were, each result at its value. -/
theorem router_run (d : Dev nD) (x : Vec F S64x768 .f32) (w : Vec F S64x768 .f32)
    (f2 : Vec F S128x1 .i32) (f3 f4 : Vec F S64x1 .i32) (f5 f6 : Vec F S64x1 .f32) (f7 : Vec F S1x1 .f32) (Q : PUnit → sProp 𝕄) :
    iprop((held0 d (st0_0 t0_0) x ∗ held0 d (st0_1 t0_0) w ∗ held0 d (st0_2 t0_0) f2 ∗ held0 d (st0_3 t0_0) f3 ∗ held0 d (st0_4 t0_0) f4
      ∗ held0 d (st0_5 t0_0) f5 ∗ held0 d (st0_6 t0_0) f6 ∗ held0 d (st0_7 t0_0) f7)
      ∗ (iprop(held0 d (st0_0 t0_0) x ∗ held0 d (st0_1 t0_0) w ∗ held0 d (st0_2 t0_0) (routed x w) ∗ held0 d (st0_3 t0_0) (k0_pay6 x w)
          ∗ held0 d (st0_4 t0_0) (k0_pay9 x w) ∗ held0 d (st0_5 t0_0) (k0_pay1 (k0_pay5 x w) (k0_pay10 x w))
          ∗ held0 d (st0_6 t0_0) (k0_pay2 (k0_pay8 x w) (k0_pay10 x w))
          ∗ held0 d (st0_7 t0_0) (k0_pay3 (k0_pay4 x w) (iota .tc S64x64 32 [1] iota_S64x64_d1_w32) (k0_pay6 x w))) -∗ Q ⟨⟩))
    ⊢ wp frame (wpE (defs₀ (F := F)) 𝒱₀ (d : Thread nD τ) none) Set.univ (bodyAt0 (F := F) t0_0) Q := by
  iintro ⟨⟨H0, H1, H2, H3, H4, H5, H6, H7⟩, Hk⟩
  sl_exec!
  sl_step
  have hx : router_run.sl.v0 (F := F) x = x := Memref.readAt_unit_zero (Elt F) cc0_stg0_0 off_zero _ x
  have hw : router_run.sl.v2 (F := F) w = w := Memref.readAt_unit_zero (Elt F) cc0_stg1_0 off_zero _ w
  have h2 : (st0_2 t0_0).view.writes (Elt F) (st0_2 t0_0).view.junk (router_run.sl.H2_2 x w) = routed x w := by
    unfold router_run.sl.H2_2
    rw [hx, hw]
    funext y
    have hr : ∀ f : Vec F S128x1 .i32, View.read (Elt F) (Memref.whole cc0_stg2_0).view f y = f y := fun f => by
      simp only [Memref.view_whole, View.read_whole]
    refine (hr _).symm.trans ?_
    refine View.read_writes_apply_of_pieces (Val := Elt F) (st0_2 t0_0).view _ (routed x w) _ ?_ y (View.cover_of_tiled _ ![64, 1] (by sl_kernel_rfl) y)
    intro p hp z
    simp only [List.mem_cons, List.not_mem_nil, _root_.or_false] at hp
    rcases hp with rfl | rfl
    · exact (routed_second x w _ z (by show 64 + 1 * (z 0).val = 64 + (z 0).val; omega)).symm
    · exact (routed_first x w _ z (by show 0 + 1 * (z 0).val = (z 0).val; omega)).symm
  have h3 : (st0_3 t0_0).view.writes (Elt F) (st0_3 t0_0).view.junk (router_run.sl.H3_1 x w) = k0_pay6 x w := by
    unfold router_run.sl.H3_1
    rw [View.writes_singleton]
    refine (Memref.write_access_unit_zero_univ (Elt F) cc0_stg3_0 off_zero _ _ _).trans ?_
    unfold router_run.sl.r_2; rw [hx, hw]
  have h4 : (st0_4 t0_0).view.writes (Elt F) (st0_4 t0_0).view.junk (router_run.sl.H4_1 x w) = k0_pay9 x w := by
    unfold router_run.sl.H4_1
    rw [View.writes_singleton]
    refine (Memref.write_access_unit_zero_univ (Elt F) cc0_stg4_0 off_zero _ _ _).trans ?_
    unfold router_run.sl.r_4; rw [hx, hw]
  have h5 : (st0_5 t0_0).view.writes (Elt F) (st0_5 t0_0).view.junk (router_run.sl.H5_1 x w) = k0_pay1 (k0_pay5 x w) (k0_pay10 x w) := by
    unfold router_run.sl.H5_1
    rw [View.writes_singleton]
    refine (Memref.write_access_unit_zero_univ (Elt F) cc0_stg5_0 off_zero _ _ _).trans ?_
    unfold router_run.sl.r_1 router_run.sl.r_5; rw [hx, hw]
  have h6 : (st0_6 t0_0).view.writes (Elt F) (st0_6 t0_0).view.junk (router_run.sl.H6_1 x w) = k0_pay2 (k0_pay8 x w) (k0_pay10 x w) := by
    unfold router_run.sl.H6_1
    rw [View.writes_singleton]
    refine (Memref.write_access_unit_zero_univ (Elt F) cc0_stg6_0 off_zero _ _ _).trans ?_
    unfold router_run.sl.r_3 router_run.sl.r_5; rw [hx, hw]
  have h7 : (st0_7 t0_0).view.writes (Elt F) (st0_7 t0_0).view.junk (router_run.sl.H7_1 x w) = k0_pay3 (k0_pay4 x w) (iota .tc S64x64 32 [1] iota_S64x64_d1_w32) (k0_pay6 x w) := by
    unfold router_run.sl.H7_1
    rw [View.writes_singleton]
    refine (Memref.write_access_unit_zero_univ (Elt F) cc0_stg7_0 off_zero _ _ _).trans ?_
    unfold router_run.sl.r router_run.sl.v13 router_run.sl.r_2; rw [hx, hw]
  rw [h2, h3, h4, h5, h6, h7]
  iapply Hk
  iframe

end Cert.Proof

end
-- ==== Proof.RouterCall.lean ====
/-
  The router kernel's call in the program, over the TensorCore's buffers at any contents: each result's array ends at the kernel's
  value over the tokens and the router's weights, every other buffer as it was.
-/
module

public import proofs.«01_k».proof.Proof.Common
public import proofs.«01_k».proof.Proof.Router
public import Idealize.ShloMosaic.Lib.Pipeline.RegionsLoop

@[expose] public section

set_option maxRecDepth 16384

noncomputable section

namespace Cert.Proof

open Cert.KernelIdeal Cert.KernelIdeal.Gen
open Idealize.ShloMosaic Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig (HIx 1) (Elt F) ℕ UU ℕ

/-! ## The call, over the TensorCore's buffers at any contents -/

/-- What the TensorCore owes between its calls: the starts of the SparseCore calls from `n` on, its waits recorded so far below them. -/
abbrev owing (d : Dev nD) (n : ℕ) : sProp 𝕄 :=
  iprop(∃ W, ⌜(K (F := F)).WBelow (SparseCore.T d) W (8 * n)⌝ ∗ owes (SparseCore.T d) ((K (F := F)).Otc d n) W)

/-- The waits recorded before SparseCore call `n`. -/
abbrev recordedBelow (d : Dev nD) (n : ℕ) : Set (SemLoc sig × HIx 1) := fun p => (K (F := F)).lev (SparseCore.T d, p.1) p.2 ≤ 8 * n

/-- The contents of every buffer of the TensorCore. -/
abbrev Contents (F : FTy → Type) : Type := (c : Dev nD) → (b : Ref sig .tc) → Buf (Elt F) ((c : Thread nD τ).loc b)

/-- What the router's call leaves: each result at the kernel's value over the tokens and the router's weights, every other buffer as it was. -/
structure RoutedTo (V V' : Contents F) (c : Dev nD) : Prop where
  words : V' c main_v1_0 = routed (F := F) (V c main_v0) (V c main_arg1)
  first : V' c main_v1_1 = k0_pay6 (F := F) (V c main_v0) (V c main_arg1)
  second : V' c main_v1_2 = k0_pay9 (F := F) (V c main_v0) (V c main_arg1)
  weight : V' c main_v1_3 = k0_pay1 (k0_pay5 (F := F) (V c main_v0) (V c main_arg1)) (k0_pay10 (V c main_v0) (V c main_arg1))
  weight' : V' c main_v1_4 = k0_pay2 (k0_pay8 (F := F) (V c main_v0) (V c main_arg1)) (k0_pay10 (V c main_v0) (V c main_arg1))
  loss : V' c main_v1_5 = k0_pay3 (k0_pay4 (F := F) (V c main_v0) (V c main_arg1)) (iota .tc S64x64 32 [1] iota_S64x64_d1_w32)
    (k0_pay6 (V c main_v0) (V c main_arg1))
  rest : ∀ b, b ≠ main_v1_0 → b ≠ main_v1_1 → b ≠ main_v1_2 → b ≠ main_v1_3 → b ≠ main_v1_4 → b ≠ main_v1_5 → V' c b = V c b

variable (V V' : Contents F)

/-- The scoped buffers that the call does not stage. -/
abbrev spare0 (c : Dev nD) : sProp 𝕄 := Pipeline.scopedRest (Ix := HIx 1) (Name := ℕ) (U := UU) (Lvl := ℕ) (Val := Elt F) spec0 c

/-- What the call's pipeline is proved with: the arrays as found, each result's buffer at the kernel's value after the body. -/
def dat0 (n : ℕ) (c : Dev nD) : Dat τ (Elt F) (HIx 1) ℕ UU ℕ cfg0 c where
  A w := V c (Pipeline.arrRef spec0 w)
  after w _ := match w with
    | ⟨0, _⟩ => V c main_v0
    | ⟨1, _⟩ => V c main_arg1
    | ⟨2, _⟩ => routed (F := F) (V c main_v0) (V c main_arg1)
    | ⟨3, _⟩ => k0_pay6 (F := F) (V c main_v0) (V c main_arg1)
    | ⟨4, _⟩ => k0_pay9 (F := F) (V c main_v0) (V c main_arg1)
    | ⟨5, _⟩ => k0_pay1 (k0_pay5 (F := F) (V c main_v0) (V c main_arg1)) (k0_pay10 (V c main_v0) (V c main_arg1))
    | ⟨6, _⟩ => k0_pay2 (k0_pay8 (F := F) (V c main_v0) (V c main_arg1)) (k0_pay10 (V c main_v0) (V c main_arg1))
    | ⟨7, _⟩ => k0_pay3 (k0_pay4 (F := F) (V c main_v0) (V c main_arg1)) (iota .tc S64x64 32 [1] iota_S64x64_d1_w32)
        (k0_pay6 (V c main_v0) (V c main_arg1))
  Φ _ := spare0 c
  q _ := fullShare
  owed _ := (K (F := F)).Otc c n
  recorded _ := recordedBelow (F := F) c n

/-- A whole array's one block is the array. -/
theorem read_block (b : Ref sig .tc) (inb) (f : b.ty.Contents (Elt F)) :
    ((Memref.whole b).access (Rect.unit (fun a => 0 * b.ty.shape.size a) b.ty.shape.size inb) : View sig .tc _ _ _).read (Elt F) f = f :=
  Memref.read_access_unit_zero (Elt F) b (funext fun _ => Nat.zero_mul _) inb f

/-- Written back, it is what was written. -/
theorem write_block (b : Ref sig .tc) (inb) (f g : b.ty.Contents (Elt F)) :
    ((Memref.whole b).access (Rect.unit (fun a => 0 * b.ty.shape.size a) b.ty.shape.size inb) : View sig .tc _ _ _).write (Elt F) f g Finset.univ = g :=
  Memref.write_access_unit_zero_univ (Elt F) b (funext fun _ => Nat.zero_mul _) inb f g

theorem block_le (s : Shape) (a : Fin s.rank) : 0 * s.size a + s.size a ≤ s.size a := by rw [Nat.zero_mul, Nat.zero_add]

theorem before0_0 (n : ℕ) (c : Dev nD) (d) : (dat0 V n c).before 0 t0_0 d = V c main_v0 := by
  unfold Dat.before; rw [if_pos (fetch0_0 _)]; exact read_block main_v0 (block_le S64x768) (V c main_v0)
theorem before0_1 (n : ℕ) (c : Dev nD) (d) : (dat0 V n c).before 1 t0_0 d = V c main_arg1 := by
  unfold Dat.before; rw [if_pos (fetch0_1 _)]; exact read_block main_arg1 (block_le S64x768) (V c main_arg1)

theorem final0_2 (n : ℕ) (c : Dev nD) : (dat0 V n c).arrAt 2 cfg0.N = (dat0 V n c).after 2 t0_0 := by
  have h := (dat0 V n c).arrAt_succ 2 t0_0
  rw [if_pos (flush0_2 _)] at h
  exact h.trans (write_block main_v1_0 (block_le S128x1) _ _)
theorem final0_3 (n : ℕ) (c : Dev nD) : (dat0 V n c).arrAt 3 cfg0.N = (dat0 V n c).after 3 t0_0 := by
  have h := (dat0 V n c).arrAt_succ 3 t0_0
  rw [if_pos (flush0_3 _)] at h
  exact h.trans (write_block main_v1_1 (block_le S64x1) _ _)
theorem final0_4 (n : ℕ) (c : Dev nD) : (dat0 V n c).arrAt 4 cfg0.N = (dat0 V n c).after 4 t0_0 := by
  have h := (dat0 V n c).arrAt_succ 4 t0_0
  rw [if_pos (flush0_4 _)] at h
  exact h.trans (write_block main_v1_2 (block_le S64x1) _ _)
theorem final0_5 (n : ℕ) (c : Dev nD) : (dat0 V n c).arrAt 5 cfg0.N = (dat0 V n c).after 5 t0_0 := by
  have h := (dat0 V n c).arrAt_succ 5 t0_0
  rw [if_pos (flush0_5 _)] at h
  exact h.trans (write_block main_v1_3 (block_le S64x1) _ _)
theorem final0_6 (n : ℕ) (c : Dev nD) : (dat0 V n c).arrAt 6 cfg0.N = (dat0 V n c).after 6 t0_0 := by
  have h := (dat0 V n c).arrAt_succ 6 t0_0
  rw [if_pos (flush0_6 _)] at h
  exact h.trans (write_block main_v1_4 (block_le S64x1) _ _)
theorem final0_7 (n : ℕ) (c : Dev nD) : (dat0 V n c).arrAt 7 cfg0.N = (dat0 V n c).after 7 t0_0 := by
  have h := (dat0 V n c).arrAt_succ 7 t0_0
  rw [if_pos (flush0_7 _)] at h
  exact h.trans (write_block main_v1_5 (block_le S1x1) _ _)

/-- None of what the TensorCore owes is at a kernel's own index. -/
theorem otc_none (c : Dev nD) (n : ℕ) (g : GSem nD τ sig) : (K (F := F)).Otc (N := 1) c n g none = 0 := by
  rcases Nat.eq_zero_or_pos ((K (F := F)).Otc (N := 1) c n g none) with h | h
  · exact h
  · exact absurd ((K (F := F)).lev_of_Otc_pos h) (by rw [(K (F := F)).lev_none]; omega)

theorem body0 (n : ℕ) (c : Dev nD) : BodyObligation (dat0 V n c) (defs₀ (F := F)) 𝒱₀ none Set.univ := fun t => by
  obtain rfl := fin_N0 t
  rw [bigSep_W0, bigSep_W0]
  simp only [owns_whole_eq]
  rw [show (dat0 V n c).Φ t0_0.castSucc = spare0 c from rfl, show (dat0 V n c).Φ t0_0.succ = spare0 c from rfl,
    show (dat0 V n c).owesAt none t0_0.succ = (dat0 V n c).owesAt none t0_0.castSucc from rfl]
  iintro ⟨HΦ, HO, ⟨%d0, %f0, %hf0, H0⟩, ⟨%d1, %f1, %hf1, H1⟩, ⟨%d2, %f2, -, H2⟩, ⟨%d3, %f3, -, H3⟩, ⟨%d4, %f4, -, H4⟩, ⟨%d5, %f5, -, H5⟩,
    ⟨%d6, %f6, -, H6⟩, ⟨%d7, %f7, -, H7⟩⟩
  rw [before0_0] at hf0
  rw [before0_1] at hf1
  subst hf0 hf1
  iapply (router_run c (V c main_v0) (V c main_arg1) f2 f3 f4 f5 f6 f7 _)
  isplitl [H0 H1 H2 H3 H4 H5 H6 H7]; · iframe
  iintro ⟨H0, H1, H2, H3, H4, H5, H6, H7⟩
  isplitl [HΦ]; · iexact HΦ
  isplitl [HO]; · iexact HO
  isplitl [H0]; · iexists _; isplitr; swap; (· iexact H0); ipureintro; rfl
  isplitl [H1]; · iexists _; isplitr; swap; (· iexact H1); ipureintro; rfl
  isplitl [H2]; · iexists _; isplitr; swap; (· iexact H2); ipureintro; rfl
  isplitl [H3]; · iexists _; isplitr; swap; (· iexact H3); ipureintro; rfl
  isplitl [H4]; · iexists _; isplitr; swap; (· iexact H4); ipureintro; rfl
  isplitl [H5]; · iexists _; isplitr; swap; (· iexact H5); ipureintro; rfl
  isplitl [H6]; · iexists _; isplitr; swap; (· iexact H6); ipureintro; rfl
  iexists _; isplitr; swap; (· iexact H7); ipureintro; rfl

/-- A pipeline's proof data where another pipeline's call is proved: nothing is asked of it. -/
def anyDat {cfg : Cfg sig Λ₀} [∀ e, Nonempty (Elt F e)] (c : Dev nD) : Dat τ (Elt F) (HIx 1) ℕ UU ℕ cfg c where
  A _ := fun _ => Classical.arbitrary _
  after _ _ := fun _ => Classical.arbitrary _
  Φ _ := BI.emp
  q _ := fullShare
  owed _ := 0

variable [∀ e, Nonempty (Elt F e)] (adm : (p : Fin 2) → (pcfgs (F := F) p).Adm)

def dats0 (n : ℕ) : (p : Fin 2) → (c : Dev nD) → Dat τ (Elt F) (HIx 1) ℕ UU ℕ (Pipeline.pin (pcfgs (F := F)) adm p) c
  | ⟨0, _⟩ => fun c => dat0 V n c
  | ⟨1, _⟩ => fun c => anyDat c

set_option backward.isDefEq.respectTransparency.types false in
/-- The router's call, from every unscoped buffer of the TensorCore at `V` to every one at `V'`, the TensorCore owing what it owes. -/
def routerCall (n : ℕ) (hV : ∀ c, RoutedTo V V' c) :
    Pipeline.RegionSeg (pcfgs (F := F)) adm (dats0 V adm n) none defs₀ 𝒱₀ (K (F := F)).L (K (F := F)).lev 0 where
  win := (launch0 (F := F)).win.to₀
  block_pos := (launch0 (F := F)).block_pos
  stage_whole := (launch0 (F := F)).stage_whole
  K := PEmpty
  osem k := k.elim
  ho := Pipeline.OwnSemFacts.none _
  hbody c := (body0 V n c).loose
  hwaits c := Pipeline.cellsWaits_intro _ _ _ 0 c fun w s t =>
    (K (F := F)).mayWait_none _ (fun g => otc_none c n g)
  pre c := iprop(unscopedBufs c (V c) ∗ owing (F := F) c n)
  post c := iprop(unscopedBufs c (V' c) ∗ owing (F := F) c n)
  X _ := BI.emp
  Y _ := BI.emp
  Z c := Pipeline.unscopedRest (Ix := HIx 1) (Name := ℕ) (U := UU) (Lvl := ℕ) spec0 c (V c)
  hentry c := by
    have hsplit := Pipeline.arrays_of_unscopedBufs (p := 0) (pcfgs (F := F)) adm (dats0 V adm n) (launch0 (F := F)).win (launch0 (F := F)).arr_whole c
      ((dats0 V adm n 0 c).share_full fun _ => rfl) (V c) fun _ => rfl
    rw [Pipeline.ownSems0_none]
    iintro ⟨⟨Hub, %W, %hW, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun p hp => Or.inl (hW p hp)
      iexact HO
    isplitr; · iempintro
    iexact Hrest
  hin c := by
    rw [show (dats0 V adm n 0 c).Φ 0 = spare0 c from rfl]
    iintro ⟨-, -, Hr⟩; iexact Hr
  hout c := by
    rw [Pipeline.ownSems0_none, show (dats0 V adm n 0 c).Φ (Fin.last _) = spare0 c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) (launch0 (F := F)).win (launch0 (F := F)).arr_whole c
      (dats0 V adm n) ((dats0 V adm n 0 c).share_full fun _ => rfl) (V c) (V' c) ((dats0 V adm n 0 c).arrAt · cfg0.N)
      (fun w => by
        fin_cases w
        · exact ((dats0 V adm n 0 c).arrAt_in 0 rfl _).trans ((hV c).rest main_v0 (by decide) (by decide) (by decide) (by decide) (by decide) (by decide)).symm
        · exact ((dats0 V adm n 0 c).arrAt_in 1 rfl _).trans ((hV c).rest main_arg1 (by decide) (by decide) (by decide) (by decide) (by decide) (by decide)).symm
        · exact (final0_2 V n c).trans (hV c).words.symm
        · exact (final0_3 V n c).trans (hV c).first.symm
        · exact (final0_4 V n c).trans (hV c).second.symm
        · exact (final0_5 V n c).trans (hV c).weight.symm
        · exact (final0_6 V n c).trans (hV c).weight'.symm
        · exact (final0_7 V n c).trans (hV c).loss.symm)
      (fun b hb => (hV c).rest b
        (fun h => hb (h ▸ Finset.mem_image.mpr ⟨2, Finset.mem_univ _, rfl⟩)) (fun h => hb (h ▸ Finset.mem_image.mpr ⟨3, Finset.mem_univ _, rfl⟩))
        (fun h => hb (h ▸ Finset.mem_image.mpr ⟨4, Finset.mem_univ _, rfl⟩)) (fun h => hb (h ▸ Finset.mem_image.mpr ⟨5, Finset.mem_univ _, rfl⟩))
        (fun h => hb (h ▸ Finset.mem_image.mpr ⟨6, Finset.mem_univ _, rfl⟩)) (fun h => hb (h ▸ Finset.mem_image.mpr ⟨7, Finset.mem_univ _, rfl⟩)))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩
    iexists W; isplitr; swap; · iexact HO
    ipureintro
    intro p hp
    rcases hW hp with h | ⟨w, s, rfl⟩
    · exact h
    · exact Nat.zero_le _

end Cert.Proof

end
-- ==== Proof.ExpertBody.lean ====
/-
  The expert kernel's body at one grid point, at any contents of its windows' buffers: the expert's share of every token's result is
  added to what the result's buffer holds, which the first point sets to zero.
-/
module

public import proofs.«01_k».proof.Proof.Common

@[expose] public section

set_option maxRecDepth 16384

noncomputable section

namespace Cert.Proof

open Cert.KernelIdeal Cert.KernelIdeal.Gen
open Idealize.ShloMosaic Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig (HIx 1) (Elt F) ℕ UU ℕ

/-! ## Whole buffers -/

/-- The rectangle from zero offsets with the shape's own sizes is all of the shape, in place. -/
theorem emb_all {s : Shape} {off : Fin s.rank → ℕ} (h0 : off = fun _ => 0) (inb) (x : s.Idx) :
    (Rect.unit (s := s) off s.size inb).emb x = x := by
  subst h0
  funext a
  apply Fin.ext
  rw [Rect.emb_apply]
  show 0 + 1 * (x a).val = (x a).val
  omega

theorem read_all {s : Shape} {e : EltTy} (M : Memref sig .tc .vmem s e) {off : Fin s.rank → ℕ} (h0 : off = fun _ => 0) (inb)
    (g : M.view.ty.Contents (Elt F)) : (M.access (Rect.unit (s := s) off s.size inb)).read (Elt F) g = M.view.read (Elt F) g := by
  funext x
  show _root_.cast _ (g (M.view.emb ((Rect.unit (s := s) off s.size inb).emb x))) = _root_.cast _ (g (M.view.emb x))
  rw [emb_all h0]

theorem read_write_all {s : Shape} {e : EltTy} (M : Memref sig .tc .vmem s e) {off : Fin s.rank → ℕ} (h0 : off = fun _ => 0) (inb)
    (f : M.view.ty.Contents (Elt F)) (v : s.Idx → Elt F e) :
    M.view.read (Elt F) ((M.access (Rect.unit (s := s) off s.size inb)).write (Elt F) f v Finset.univ) = v := by
  funext y
  conv_lhs => rw [← emb_all h0 inb y]
  exact View.read_slice_write_emb _ _ _ (Finset.mem_univ y)

/-- A load of all of a buffer gives what the buffer holds, and leaves it. -/
theorem load_all (d : Dev nD) {s : Shape} {e : EltTy} (M : Memref sig .tc .vmem s e) {off : Fin s.rank → ℕ} (h0 : off = fun _ => 0) (inb) (hl)
    (X : s.Idx → Elt F e) {α : Type} (k : (s.Idx → Elt F e) → Prog (TpuEff nD τ sig (Elt F) Λ₀ .tc) α) (Q : α → sProp 𝕄) :
    owns (d : Thread nD τ) M fullShare X
      ⊢ iprop((owns (d : Thread nD τ) M fullShare X -∗ wp frame (wpE (defs₀ (F := F)) 𝒱₀ (d : Thread nD τ) none) Set.univ (k X) Q)
        -∗ wp frame (wpE (defs₀ (F := F)) 𝒱₀ (d : Thread nD τ) none) Set.univ
          (.op (.load M (Rect.unit (s := s) off s.size inb).toLoadRect hl) k) Q) := by
  unfold owns
  iintro ⟨%f, %hf, H⟩ Hk
  iapply (wp_load_rect 𝒱₀ (d : Thread nD τ) none Set.univ (m := M) (r := Rect.unit (s := s) off s.size inb) (View.set_slice_subset _ _)) $$ H
  iintro H
  rw [read_all M h0, hf]
  iapply Hk
  iexists f; isplitr; · ipureintro; exact hf
  iexact H

/-- A store to all of a buffer leaves the stored value there. -/
theorem store_all (d : Dev nD) {s : Shape} {e : EltTy} (M : Memref sig .tc .vmem s e) {off : Fin s.rank → ℕ} (h0 : off = fun _ => 0) (inb) (hx) (hm)
    (X v : s.Idx → Elt F e) {α : Type} (k : PUnit → Prog (TpuEff nD τ sig (Elt F) Λ₀ .tc) α) (Q : α → sProp 𝕄) :
    owns (d : Thread nD τ) M fullShare X
      ⊢ iprop((owns (d : Thread nD τ) M fullShare v -∗ wp frame (wpE (defs₀ (F := F)) 𝒱₀ (d : Thread nD τ) none) Set.univ (k ⟨⟩) Q)
        -∗ wp frame (wpE (defs₀ (F := F)) 𝒱₀ (d : Thread nD τ) none) Set.univ
          (.op (.store M (Rect.unit (s := s) off s.size inb) v Finset.univ hx hm) k) Q) := by
  unfold owns
  iintro ⟨%f, -, H⟩ Hk
  iapply (wp_store 𝒱₀ (d : Thread nD τ) none Set.univ (m := M) (r := Rect.unit (s := s) off s.size inb) (Mk := Finset.univ) (View.set_slice_subset _ _)) $$ H
  iintro H
  iapply Hk
  iexists _; isplitr; swap; · iexact H
  ipureintro; exact read_write_all M h0 inb f v

/-! ## The body -/

/-- The number of the expert of grid point `t`, from the table. -/
def expertAt (ids : Vec F S64 .i32) (t : Fin 64) : BitVec 32 := ids fun | ⟨0, _⟩ => t

/-- The body reads its table at the point's word. -/
theorem table_read (ids : Vec F S64 .i32) (t : Fin 64) (h : k2_chk1 (BitVec.ofNat 32 t.val)) (x : S1.Idx) :
    ((Memref.whole main_v6).access (Rect.unit (s := S64) (k2_off2 (BitVec.ofNat 32 t.val)) S1.size (k2_off2_inb _ h)) : View sig .tc _ _ _).read
      (Elt F) ids x = expertAt ids t := by
  show ids _ = ids _
  congr 1
  funext a
  fin_cases a
  apply Fin.ext
  have hx : (x 0).val < 1 := (x 0).isLt
  show (BitVec.ofNat 32 t.val).toNat + 1 * (x 0).val = t.val
  rw [BitVec.toNat_ofNat, Nat.mod_eq_of_lt (by have := t.isLt; omega)]
  omega

theorem point_ok (t : Fin 64) : k2_chk1 (BitVec.ofNat 32 t.val) := by
  intro a
  fin_cases a
  show (BitVec.ofNat 32 t.val).toNat + 1 ≤ 64
  rw [BitVec.toNat_ofNat, Nat.mod_eq_of_lt (by have := t.isLt; omega)]
  exact t.isLt

/-- The first point's test, at each point. -/
theorem is_first : ∀ t : Fin 64,
    (Scalar.cmpi .ne (Scalar.extui (Scalar.cmpi .eq (BitVec.ofNat 32 t.val) 0#32) : BitVec 32) 0#32 = 1#1) = (t.val = 0) := by
  intro t; apply propext; revert t; decide +kernel

/-- What a grid point adds expert `e` to. -/
def soFar (t : ℕ) (o : Vec F S64x768 .f32) : Vec F S64x768 .f32 := if t = 0 then k2_pay2 (F := F) else o

/-- The result after expert `e`'s point, from what it held: the expert's value at the tokens `x` and its matrices, weighted as the
    tokens' choices of it say. -/
def addExpert (e : BitVec 32) (x : Vec F S64x768 .f32) (i0 i1 : Vec F S64x1 .i32) (w0 w1 : Vec F S64x1 .f32) (G U D : Vec F S1x768x768 .f32)
    (o : Vec F S64x768 .f32) : Vec F S64x768 .f32 :=
  k2_pay1 (k2_pay3 x G U D) (k2_pay4 (F := F) e i0 w0) (k2_pay5 (F := F) e i1) (k2_pay6 w1) o

theorem off_zero2 : (![0, 0] : Fin 2 → ℕ) = fun _ => 0 := by funext a; fin_cases a <;> rfl
theorem off_zero3 : (![0, 0, 0] : Fin 3 → ℕ) = fun _ => 0 := by funext a; fin_cases a <;> rfl

variable (d : Dev nD) (b : grid2.Bounds) (i : grid2.Static)
  (m2 : Memref sig .tc .vmem S64x768 .f32) (h2 : m2.IsWhole) (m3 m4 : Memref sig .tc .vmem S64x1 .i32) (h3 : m3.IsWhole) (h4 : m4.IsWhole)
  (m5 m6 : Memref sig .tc .vmem S64x1 .f32) (h5 : m5.IsWhole) (h6 : m6.IsWhole)
  (m7 m8 m9 : Memref sig .tc .vmem S1x768x768 .f32) (h7 : m7.IsWhole) (h8 : m8.IsWhole) (h9 : m9.IsWhole)
  (m10 : Memref sig .tc .vmem S64x768 .f32) (h10 : m10.IsWhole)

abbrev tableLoc (d : Dev nD) : Loc nD τ sig := (d : Thread nD τ).loc main_v6

/-- The windows' buffers, at the contents given. -/
abbrev windows (x : Vec F S64x768 .f32) (i0 i1 : Vec F S64x1 .i32) (w0 w1 : Vec F S64x1 .f32) (G U D : Vec F S1x768x768 .f32) (o : Vec F S64x768 .f32) : sProp 𝕄 :=
  iprop(owns (d : Thread nD τ) m2 fullShare x ∗ owns (d : Thread nD τ) m3 fullShare i0 ∗ owns (d : Thread nD τ) m4 fullShare i1
    ∗ owns (d : Thread nD τ) m5 fullShare w0 ∗ owns (d : Thread nD τ) m6 fullShare w1 ∗ owns (d : Thread nD τ) m7 fullShare G
    ∗ owns (d : Thread nD τ) m8 fullShare U ∗ owns (d : Thread nD τ) m9 fullShare D ∗ owns (d : Thread nD τ) m10 fullShare o)

/-- From the table's read on: the loads of what the expert's value takes, then the result loaded, added to and stored. -/
theorem expert_rest (t : Fin 64) (ids : Vec F S64 .i32) (x : Vec F S64x768 .f32) (i0 i1 : Vec F S64x1 .i32) (w0 w1 : Vec F S64x1 .f32)
    (G U D : Vec F S1x768x768 .f32) (o : Vec F S64x768 .f32) (Q : PUnit → sProp 𝕄)
    (ht) (z : S1.Idx) (a2) (a7) (a8) (a9) (a3) (a5) (a4) (a6) (a10) (b10) (hx) (hm) :
    iprop((tableLoc d ↦{fullShare} ids) ∗ windows d m2 m3 m4 m5 m6 m7 m8 m9 m10 x i0 i1 w0 w1 G U D o
      ∗ ((tableLoc d ↦{fullShare} ids) -∗ windows d m2 m3 m4 m5 m6 m7 m8 m9 m10 x i0 i1 w0 w1 G U D
          (addExpert (expertAt ids t) x i0 i1 w0 w1 G U D o) -∗ Q ⟨⟩))
    ⊢ wp frame (wpE (defs₀ (F := F)) 𝒱₀ (d : Thread nD τ) none) Set.univ
      (.op (.load (Memref.whole main_v6) (Rect.unit (s := S64) (k2_off2 (BitVec.ofNat 32 t.val)) S1.size (k2_off2_inb _ (point_ok t))).toLoadRect ht)
        fun (v4 : Vec F S1 .i32) =>
      .op (.load m2 (Rect.unit (s := S64x768) ![0, 0] S64x768.size inb_S64x768_S64x768_0_0).toLoadRect a2) fun (v5 : Vec F S64x768 .f32) =>
      .op (.load m7 (Rect.unit (s := S1x768x768) ![0, 0, 0] S1x768x768.size inb_S1x768x768_S1x768x768_0_0_0).toLoadRect a7) fun (v7 : Vec F S1x768x768 .f32) =>
      .op (.load m8 (Rect.unit (s := S1x768x768) ![0, 0, 0] S1x768x768.size inb_S1x768x768_S1x768x768_0_0_0).toLoadRect a8) fun (v9 : Vec F S1x768x768 .f32) =>
      .op (.load m9 (Rect.unit (s := S1x768x768) ![0, 0, 0] S1x768x768.size inb_S1x768x768_S1x768x768_0_0_0).toLoadRect a9) fun (v11 : Vec F S1x768x768 .f32) =>
      .op (.load m3 (Rect.unit (s := S64x1) ![0, 0] S64x1.size inb_S64x1_S64x1_0_0).toLoadRect a3) fun (v19 : Vec F S64x1 .i32) =>
      .op (.load m5 (Rect.unit (s := S64x1) ![0, 0] S64x1.size inb_S64x1_S64x1_0_0).toLoadRect a5) fun (v23 : Vec F S64x1 .f32) =>
      .op (.load m4 (Rect.unit (s := S64x1) ![0, 0] S64x1.size inb_S64x1_S64x1_0_0).toLoadRect a4) fun (v27 : Vec F S64x1 .i32) =>
      .op (.load m6 (Rect.unit (s := S64x1) ![0, 0] S64x1.size inb_S64x1_S64x1_0_0).toLoadRect a6) fun (v31 : Vec F S64x1 .f32) =>
      .op (.load m10 (Rect.unit (s := S64x768) ![0, 0] S64x768.size inb_S64x768_S64x768_0_0).toLoadRect a10) fun (v36 : Vec F S64x768 .f32) =>
      .op (.load m10 (Rect.unit (s := S64x768) ![0, 0] S64x768.size inb_S64x768_S64x768_0_0).toLoadRect b10) fun (_ : Vec F S64x768 .f32) =>
      .op (.store m10 (Rect.unit (s := S64x768) ![0, 0] S64x768.size inb_S64x768_S64x768_0_0)
        (k2_pay1 (k2_pay3 v5 v7 v9 v11) (k2_pay4 (F := F) (v4 z) v19 v23) (k2_pay5 (F := F) (v4 z) v27) (k2_pay6 v31) v36) Finset.univ hx hm) fun _ =>
      (Pure.pure PUnit.unit : Prog (TpuEff nD τ sig (Elt F) Λ₀ .tc) PUnit)) Q := by
  unfold windows
  iintro ⟨Ht, ⟨H2, H3, H4, H5, H6, H7, H8, H9, H10⟩, Hk⟩
  iapply (wp_load_rect 𝒱₀ (d : Thread nD τ) none Set.univ (m := Memref.whole main_v6)
    (r := Rect.unit (s := S64) (k2_off2 (BitVec.ofNat 32 t.val)) S1.size (k2_off2_inb _ (point_ok t))) (Finset.subset_univ _)) $$ Ht
  iintro Ht
  rw [table_read ids t (point_ok t) z]
  iapply (load_all d m2 off_zero2 _ _ x _ _) $$ H2; iintro H2
  iapply (load_all d m7 off_zero3 _ _ G _ _) $$ H7; iintro H7
  iapply (load_all d m8 off_zero3 _ _ U _ _) $$ H8; iintro H8
  iapply (load_all d m9 off_zero3 _ _ D _ _) $$ H9; iintro H9
  iapply (load_all d m3 off_zero2 _ _ i0 _ _) $$ H3; iintro H3
  iapply (load_all d m5 off_zero2 _ _ w0 _ _) $$ H5; iintro H5
  iapply (load_all d m4 off_zero2 _ _ i1 _ _) $$ H4; iintro H4
  iapply (load_all d m6 off_zero2 _ _ w1 _ _) $$ H6; iintro H6
  iapply (load_all d m10 off_zero2 _ _ o _ _) $$ H10; iintro H10
  iapply (load_all d m10 off_zero2 _ _ o _ _) $$ H10; iintro H10
  iapply (store_all d m10 off_zero2 _ _ _ o _ _ _) $$ H10; iintro H10
  rw [wp_pure]; imodintro
  iapply Hk $$ [Ht]; · iexact Ht
  unfold addExpert
  iframe

/-- The body at grid point `t`: the expert is added, and everything else stays as it was. -/
theorem expert_run (t : Fin 64) (ids : Vec F S64 .i32) (x : Vec F S64x768 .f32) (i0 i1 : Vec F S64x1 .i32) (w0 w1 : Vec F S64x1 .f32)
    (G U D : Vec F S1x768x768 .f32) (o : Vec F S64x768 .f32) (Q : PUnit → sProp 𝕄) :
    iprop((tableLoc d ↦{fullShare} ids) ∗ windows d m2 m3 m4 m5 m6 m7 m8 m9 m10 x i0 i1 w0 w1 G U D o
      ∗ ((tableLoc d ↦{fullShare} ids) -∗ windows d m2 m3 m4 m5 m6 m7 m8 m9 m10 x i0 i1 w0 w1 G U D
          (addExpert (expertAt ids t) x i0 i1 w0 w1 G U D (soFar t.val o)) -∗ Q ⟨⟩))
    ⊢ wp frame (wpE (defs₀ (F := F)) 𝒱₀ (d : Thread nD τ) none) Set.univ
        (cc2__expert_body (F := F) b i (BitVec.ofNat 32 t.val) (Memref.whole main_v6) (Memref.isWhole_whole _) m2 h2 m3 h3 m4 h4 m5 h5 m6 h6 m7 h7 m8 h8
          m9 h9 m10 h10) Q := by
  rw [cc2__expert_body_eq_skeleton]
  unfold cc2__expert_body_skel
  rw [k2_part1_eq_skeleton]
  unfold k2_part1_skel windows smemLoad smemLoadElt
  simp only [Prog.lift, Prog.bind_op, Prog.bind_ret, Prog.bind_assoc]
  iintro ⟨Ht, ⟨H2, H3, H4, H5, H6, H7, H8, H9, H10⟩, Hk⟩
  iapply (wp_assume 𝒱₀ (d : Thread nD τ) none Set.univ (point_ok t))
  simp only [is_first]
  by_cases ht : t.val = 0
  · rw [if_pos ht, show soFar t.val o = k2_pay2 (F := F) from if_pos ht]
    simp only [Prog.bind_op, pure_bind]
    iapply (load_all d m10 off_zero2 _ _ o _ _) $$ H10
    iintro H10
    iapply (store_all d m10 off_zero2 _ _ _ o _ _ _) $$ H10
    iintro H10
    iapply (expert_rest d m2 m3 m4 m5 m6 m7 m8 m9 m10 t ids x i0 i1 w0 w1 G U D _ _ _ _ _ _ _ _ _ _ _ _ _ _ _)
    iframe
    unfold windows
    iframe
  · rw [if_neg ht, show soFar t.val o = o from if_neg ht]
    simp only [Prog.bind_op, pure_bind]
    iapply (expert_rest d m2 m3 m4 m5 m6 m7 m8 m9 m10 t ids x i0 i1 w0 w1 G U D _ _ _ _ _ _ _ _ _ _ _ _ _ _ _)
    iframe
    unfold windows
    iframe

/-- The same, the point's word given by what it equals. -/
theorem expert_at (t : Fin 64) (wd : BitVec 32) (hw : wd = BitVec.ofNat 32 t.val) (ids : Vec F S64 .i32) (x : Vec F S64x768 .f32) (i0 i1 : Vec F S64x1 .i32)
    (w0 w1 : Vec F S64x1 .f32) (G U D : Vec F S1x768x768 .f32) (o o' : Vec F S64x768 .f32) (ho : soFar t.val o = o') (Q : PUnit → sProp 𝕄) :
    iprop((tableLoc d ↦{fullShare} ids) ∗ windows d m2 m3 m4 m5 m6 m7 m8 m9 m10 x i0 i1 w0 w1 G U D o
      ∗ ((tableLoc d ↦{fullShare} ids) -∗ windows d m2 m3 m4 m5 m6 m7 m8 m9 m10 x i0 i1 w0 w1 G U D
          (addExpert (expertAt ids t) x i0 i1 w0 w1 G U D o') -∗ Q ⟨⟩))
    ⊢ wp frame (wpE (defs₀ (F := F)) 𝒱₀ (d : Thread nD τ) none) Set.univ
        (cc2__expert_body (F := F) b i wd (Memref.whole main_v6) (Memref.isWhole_whole _) m2 h2 m3 h3 m4 h4 m5 h5 m6 h6 m7 h7 m8 h8 m9 h9 m10 h10) Q := by
  subst hw ho
  exact expert_run d b i m2 h2 m3 m4 h3 h4 m5 m6 h5 h6 m7 m8 m9 h7 h8 h9 m10 h10 t ids x i0 i1 w0 w1 G U D o Q

end Cert.Proof

end
-- ==== Proof.ExpertTable.lean ====
/-
  The experts' kernel's prefetched tables: the contents it runs at — a count from one to sixty-four and experts' numbers — and what its
  grid and its windows are at them.
-/
module

public import proofs.«01_k».proof.Proof.Common
public import proofs.«01_k».proof.Proof.RouterCall
public import proofs.«01_k».proof.Proof.ExpertBody

@[expose] public section

set_option maxRecDepth 16384

noncomputable section

namespace Cert.Proof

open Cert.KernelIdeal Cert.KernelIdeal.Gen
open Idealize.ShloMosaic Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig (HIx 1) (Elt F) ℕ UU ℕ

/-! ## The tables' contents that the experts' kernel runs at -/

/-- What the tables must hold for the kernel to run: a grid of one to sixty-four points, and at each an expert's number. -/
structure InRange (pf : pre2.Contents (Elt F)) : Prop where
  some_point : 1 ≤ dynb2 pf 0
  count : dynb2 pf 0 ≤ 64
  number : ∀ x, (pf 1 x : BitVec 32).toNat < 64

theorem points_eq (b : grid2.Bounds) : (grid2.at b).N = b 0 := by
  show (List.ofFn (grid2.at b).bound).prod = b 0
  rw [show List.ofFn (grid2.at b).bound = [b 0] from rfl]
  simp

/-- A point's one coordinate is the point. -/
theorem coords_eq (b : grid2.Bounds) (t : Fin (grid2.at b).N) : ((grid2.at b).coords t 0).val = t.val := by
  have ht : t.val < b 0 := (points_eq b) ▸ t.isLt
  show t.val / (grid2.at b).stride 0 % (grid2.at b).bound 0 = t.val
  rw [show (grid2.at b).stride 0 = 1 from rfl, Nat.div_one]
  exact Nat.mod_eq_of_lt ht

theorem coord_lt {pf : pre2.Contents (Elt F)} (h : InRange pf) (i : (grid2.at (dynb2 pf)).Coords) : (i 0).val < 64 :=
  Nat.lt_of_lt_of_le (i 0).isLt h.count

theorem word_val {n : ℕ} (h : n < 64) : (BitVec.ofNat 32 n).toNat = n := by
  rw [BitVec.toNat_ofNat, Nat.mod_eq_of_lt (by omega)]

/-- The table's entry that a point's index maps read. -/
theorem entry_eq (pf : pre2.Contents (Elt F)) (t : Fin 64) :
    (pf.atD 1 ![(BitVec.ofNat 32 t.val).toNat] : BitVec 32) = expertAt (F := F) (pf 1) t := by
  have hin : ∀ a, (![(BitVec.ofNat 32 t.val).toNat] : Fin 1 → ℕ) a + 1 ≤ (pre2.ref 1).ty.shape.size a := by
    intro a; fin_cases a
    show (BitVec.ofNat 32 t.val).toNat + 1 ≤ 64
    rw [word_val t.isLt]; exact t.isLt
  refine (dif_pos hin).trans ?_
  show pf 1 _ = pf 1 _
  congr 1
  funext a; fin_cases a; apply Fin.ext; exact word_val t.isLt

theorem whole_fits2 {s : Shape} {f : Fin s.rank → ℕ} (hf : f = fun _ => 0) (a : Fin s.rank) : (f a + 1) * s.size a ≤ s.size a := by
  subst hf; simp

theorem block_fits {v : BitVec 32} (hv : v.toNat < 64) (a : Fin 3) :
    ((![v.toNat, (0#32).toNat, (0#32).toNat] : Fin 3 → ℕ) a + 1) * S1x768x768.size a ≤ S64x768x768.size a := by
  fin_cases a
  · show (v.toNat + 1) * 1 ≤ 64; omega
  · show (0 + 1) * 768 ≤ 768; omega
  · show (0 + 1) * 768 ≤ 768; omega

/-- Such contents are ones the kernel's call checks and runs at. -/
theorem ok_of {pf : pre2.Contents (Elt F)} (h : InRange pf) : ok2 pf := by
  unfold ok2
  have hz : (![(0#32).toNat, (0#32).toNat] : Fin 2 → ℕ) = fun _ => 0 := by funext a; fin_cases a <;> rfl
  have hv (i : (grid2.at (dynb2 pf)).Coords) : (pf.atD 1 ![(BitVec.ofNat 32 (i 0).val).toNat] : BitVec 32).toNat < 64 := by
    rw [entry_eq pf ⟨(i 0).val, coord_lt h i⟩]; exact h.number _
  refine ⟨?_, ?_, fun i => ⟨whole_fits2 (s := S64x768) hz, .inl rfl⟩, fun i => ⟨whole_fits2 (s := S64x1) hz, .inl rfl⟩,
    fun i => ⟨whole_fits2 (s := S64x1) hz, .inl rfl⟩, fun i => ⟨whole_fits2 (s := S64x1) hz, .inl rfl⟩, fun i => ⟨whole_fits2 (s := S64x1) hz, .inl rfl⟩, fun i => ⟨block_fits (hv i), .inl rfl⟩,
    fun i => ⟨block_fits (hv i), .inl rfl⟩, fun i => ⟨block_fits (hv i), .inl rfl⟩, fun i => ⟨whole_fits2 (s := S64x768) hz, .inl rfl⟩⟩
  · show (grid2.at (dynb2 pf)).N + 2 < 2 ^ 31
    rw [points_eq]; have := h.count; omega
  · intro i a
    fin_cases a
    show (BitVec.ofNat 32 (i 0).val).toNat + 1 ≤ 64
    rw [word_val (coord_lt h i)]; exact coord_lt h i

/-! ## The windows over them -/

variable (a : (pcfg2 (F := F)).Adm) (hr : InRange a.1)

/-- The points of the grid, as experts' places in the table. -/
def place (n : ℕ) : Fin 64 := ⟨n % 64, Nat.mod_lt _ (by decide)⟩

theorem points : (cfg2 a).N = dynb2 a.1 0 := points_eq _

include hr in
theorem point_lt (t : Fin (cfg2 a).N) : t.val < 64 := Nat.lt_of_lt_of_le t.isLt ((points a).trans_le hr.count)

include hr in
theorem place_val (t : Fin (cfg2 a).N) : (place t.val).val = t.val := Nat.mod_eq_of_lt (point_lt a hr t)

include hr in
theorem coords_place (t : Fin (cfg2 a).N) : ((grid2.at (dynb2 a.1)).coords t 0).val = (place t.val).val :=
  (coords_eq _ t).trans (place_val a hr t).symm

/-- Expert `e`'s matrix out of the sixty-four. -/
def expertBlock (M : Vec F S64x768x768 .f32) (e : BitVec 32) : Vec F S1x768x768 .f32 :=
  fun j => M fun | ⟨0, _⟩ => ⟨e.toNat % 64, Nat.mod_lt _ (by decide)⟩ | ⟨1, _⟩ => j 1 | ⟨2, _⟩ => j 2

include hr in
theorem number_at (t : Fin (cfg2 a).N) :
    (a.1.atD 1 ![(BitVec.ofNat 32 ((grid2.at (dynb2 a.1)).coords t 0).val).toNat] : BitVec 32) = expertAt (F := F) (a.1 1) (place t.val) := by
  rw [coords_place a hr t]; exact entry_eq a.1 (place t.val)

include hr in
theorem expert_lt (n : ℕ) : (expertAt (F := F) (a.1 1) (place n)).toNat < 64 := hr.number _

/-- Where a block of one expert's matrix lies among the sixty-four. -/
theorem expert_index (off : Fin 3 → ℕ) (e : BitVec 32) (he : e.toNat < 64) (ho : off = ![e.toNat, 0, 0]) (inb) (j : S1x768x768.Idx) :
    (Rect.unit (s := S64x768x768) (fun k => off k * S1x768x768.size k) S1x768x768.size inb).emb j
      = fun | ⟨0, _⟩ => ⟨e.toNat % 64, Nat.mod_lt _ (by decide)⟩ | ⟨1, _⟩ => j 1 | ⟨2, _⟩ => j 2 := by
  subst ho
  have hj : (j 0).val < 1 := (j 0).isLt
  funext k
  apply Fin.ext
  rw [Rect.emb_apply]
  fin_cases k
  · show e.toNat * 1 + 1 * (j 0).val = e.toNat % 64; rw [Nat.mod_eq_of_lt he]; omega
  · show 0 * 768 + 1 * (j 1).val = (j 1).val; omega
  · show 0 * 768 + 1 * (j 2).val = (j 2).val; omega

include hr in
theorem read_block5 (t : Fin (cfg2 a).N) (M : Vec F S64x768x768 .f32) :
    ((win2 a 5).blk t).view.read (Elt F) M = expertBlock M (expertAt (F := F) (a.1 1) (place t.val)) := by
  funext j
  exact congrArg M (expert_index _ _ (expert_lt a hr t.val) (congrArg (fun v : BitVec 32 => (![v.toNat, 0, 0] : Fin 3 → ℕ)) (number_at a hr t)) _ j)
include hr in
theorem read_block6 (t : Fin (cfg2 a).N) (M : Vec F S64x768x768 .f32) :
    ((win2 a 6).blk t).view.read (Elt F) M = expertBlock M (expertAt (F := F) (a.1 1) (place t.val)) := by
  funext j
  exact congrArg M (expert_index _ _ (expert_lt a hr t.val) (congrArg (fun v : BitVec 32 => (![v.toNat, 0, 0] : Fin 3 → ℕ)) (number_at a hr t)) _ j)
include hr in
theorem read_block7 (t : Fin (cfg2 a).N) (M : Vec F S64x768x768 .f32) :
    ((win2 a 7).blk t).view.read (Elt F) M = expertBlock M (expertAt (F := F) (a.1 1) (place t.val)) := by
  funext j
  exact congrArg M (expert_index _ _ (expert_lt a hr t.val) (congrArg (fun v : BitVec 32 => (![v.toNat, 0, 0] : Fin 3 → ℕ)) (number_at a hr t)) _ j)

/-- The result's block is written back after the last point, and after no other. -/
theorem flush_result (t : Fin (cfg2 a).N) : (win2 a 8).flush t = decide (t.val + 1 = (cfg2 a).N) := by
  unfold Pipeline.Window.flush
  have hi (s s' : Fin (cfg2 a).N) : (win2 a 8).index s = (win2 a 8).index s' := rfl
  have h : ¬ ∃ h : t.val + 1 < (cfg2 a).N, (win2 a 8).index ⟨t.val + 1, h⟩ ≠ (win2 a 8).index t := fun ⟨h, hn⟩ => hn (hi _ _)
  rw [decide_eq_false h, Bool.or_false]
  rfl

end Cert.Proof

end
-- ==== Proof.ExpertCall.lean ====
/-
  The experts' kernel's call in the program, over the TensorCore's buffers at any contents and its tables at contents it runs at: the
  result ends at the experts' sum over the table's places, every other buffer as it was.
-/
module

public import proofs.«01_k».proof.Proof.ExpertTable
public import Idealize.ShloMosaic.Lib.Pipeline.RegionsLoop
public import Idealize.ShloMosaic.Lib.Pipeline.FrameBody

@[expose] public section

set_option maxRecDepth 16384

noncomputable section

namespace Cert.Proof

open Cert.KernelIdeal Cert.KernelIdeal.Gen
open Idealize.ShloMosaic Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig (HIx 1) (Elt F) ℕ UU ℕ

variable (V V' : Contents F) (a : (pcfg2 (F := F)).Adm) (hr : InRange a.1)

/-- The result's buffer after `n` points: the experts of the first `n` places of the table added to zero, in their order. -/
def summed (c : Dev nD) : ℕ → Vec F S64x768 .f32
  | 0 => k2_pay2 (F := F)
  | n + 1 => addExpert (expertAt (F := F) (a.1 1) (place n)) (V c main_v0) (V c main_v1_1) (V c main_v1_2) (V c main_v1_3) (V c main_v1_4)
      (expertBlock (V c main_arg2) (expertAt (F := F) (a.1 1) (place n))) (expertBlock (V c main_arg3) (expertAt (F := F) (a.1 1) (place n)))
      (expertBlock (V c main_arg4) (expertAt (F := F) (a.1 1) (place n))) (summed c n)

theorem soFar_summed (c : Dev nD) (n : ℕ) : soFar n (summed V a c n) = summed V a c n := by
  unfold soFar
  split
  · next h => subst h; rfl
  · rfl

/-- What the experts' call leaves: its result at the experts' sum over the table's places, every other buffer as it was. -/
structure SummedTo (c : Dev nD) : Prop where
  result : V' c main_v7 = summed V a c (dynb2 a.1 0)
  rest : ∀ b, b ≠ main_v7 → V' c b = V c b

/-- The scoped buffers that the call does not stage. -/
abbrev spare2 (c : Dev nD) : sProp 𝕄 := Pipeline.scopedRest (Ix := HIx 1) (Name := ℕ) (U := UU) (Lvl := ℕ) (Val := Elt F) spec2 c

/-- The two tables, held at their contents. -/
abbrev tables (c : Dev nD) : sProp 𝕄 := Pipeline.prefHeld (Ix := HIx 1) (Name := ℕ) (U := UU) (Lvl := ℕ) pre2 c (fun _ => fullShare) a.1

theorem tables_eq (c : Dev nD) :
    tables a c = iprop(((c : Thread nD τ).loc main_v5 ↦{fullShare} a.1 0) ∗ (tableLoc c ↦{fullShare} a.1 1)) := by
  unfold tables Pipeline.prefHeld
  exact bigSep_univ_eq_bigSepL [(0 : Fin 2), (1 : Fin 2)] (by decide) (by decide) _

/-- What the call's pipeline is proved with. -/
def dat2 (n : ℕ) (c : Dev nD) : Dat τ (Elt F) (HIx 1) ℕ UU ℕ (cfg2 a) c where
  A w := V c (Pipeline.arrRef spec2 w)
  after w t := match w with
    | ⟨0, _⟩ => V c main_v0
    | ⟨1, _⟩ => V c main_v1_1
    | ⟨2, _⟩ => V c main_v1_2
    | ⟨3, _⟩ => V c main_v1_3
    | ⟨4, _⟩ => V c main_v1_4
    | ⟨5, _⟩ => expertBlock (V c main_arg2) (expertAt (F := F) (a.1 1) (place t.val))
    | ⟨6, _⟩ => expertBlock (V c main_arg3) (expertAt (F := F) (a.1 1) (place t.val))
    | ⟨7, _⟩ => expertBlock (V c main_arg4) (expertAt (F := F) (a.1 1) (place t.val))
    | ⟨8, _⟩ => summed V a c (t.val + 1)
  Φ _ := iprop(tables a c ∗ spare2 c)
  q _ := fullShare
  owed _ := (K (F := F)).Otc c n
  recorded _ := recordedBelow (F := F) c n

theorem two_zero (f : Fin 2 → ℕ) (s : Fin 2 → ℕ) (h : f = fun _ => 0) : (fun k => f k * s k) = fun _ => 0 := by
  subst h; funext k; exact Nat.zero_mul _

theorem zero_index : (![(0#32).toNat, (0#32).toNat] : Fin 2 → ℕ) = fun _ => 0 := by funext k; fin_cases k <;> rfl

variable (n : ℕ) (c : Dev nD)

theorem read_win0 (t : Fin (cfg2 a).N) (f : main_v0.ty.Contents (Elt F)) : ((win2 a 0).blk t).view.read (Elt F) f = f :=
  Memref.read_access_unit_zero (Elt F) main_v0 (two_zero _ S64x768.size zero_index) _ f
theorem before2_0 (t) (d) : (dat2 V a n c).before (0 : Fin 9) t d = V c main_v0 :=
  ((dat2 V a n c).before_in_eq_fetched 0 rfl (fun _ => rfl) (fun _ _ _ => rfl) (fun u => (read_win0 a u _).symm) t d).trans (read_win0 a t _)
theorem read_win1 (t : Fin (cfg2 a).N) (f : main_v1_1.ty.Contents (Elt F)) : ((win2 a 1).blk t).view.read (Elt F) f = f :=
  Memref.read_access_unit_zero (Elt F) main_v1_1 (two_zero _ S64x1.size zero_index) _ f
theorem before2_1 (t) (d) : (dat2 V a n c).before (1 : Fin 9) t d = V c main_v1_1 :=
  ((dat2 V a n c).before_in_eq_fetched 1 rfl (fun _ => rfl) (fun _ _ _ => rfl) (fun u => (read_win1 a u _).symm) t d).trans (read_win1 a t _)
theorem read_win2 (t : Fin (cfg2 a).N) (f : main_v1_2.ty.Contents (Elt F)) : ((win2 a 2).blk t).view.read (Elt F) f = f :=
  Memref.read_access_unit_zero (Elt F) main_v1_2 (two_zero _ S64x1.size zero_index) _ f
theorem before2_2 (t) (d) : (dat2 V a n c).before (2 : Fin 9) t d = V c main_v1_2 :=
  ((dat2 V a n c).before_in_eq_fetched 2 rfl (fun _ => rfl) (fun _ _ _ => rfl) (fun u => (read_win2 a u _).symm) t d).trans (read_win2 a t _)
theorem read_win3 (t : Fin (cfg2 a).N) (f : main_v1_3.ty.Contents (Elt F)) : ((win2 a 3).blk t).view.read (Elt F) f = f :=
  Memref.read_access_unit_zero (Elt F) main_v1_3 (two_zero _ S64x1.size zero_index) _ f
theorem before2_3 (t) (d) : (dat2 V a n c).before (3 : Fin 9) t d = V c main_v1_3 :=
  ((dat2 V a n c).before_in_eq_fetched 3 rfl (fun _ => rfl) (fun _ _ _ => rfl) (fun u => (read_win3 a u _).symm) t d).trans (read_win3 a t _)
theorem read_win4 (t : Fin (cfg2 a).N) (f : main_v1_4.ty.Contents (Elt F)) : ((win2 a 4).blk t).view.read (Elt F) f = f :=
  Memref.read_access_unit_zero (Elt F) main_v1_4 (two_zero _ S64x1.size zero_index) _ f
theorem before2_4 (t) (d) : (dat2 V a n c).before (4 : Fin 9) t d = V c main_v1_4 :=
  ((dat2 V a n c).before_in_eq_fetched 4 rfl (fun _ => rfl) (fun _ _ _ => rfl) (fun u => (read_win4 a u _).symm) t d).trans (read_win4 a t _)

include hr in
theorem before2_5 (t) (d) : (dat2 V a n c).before (5 : Fin 9) t d = expertBlock (V c main_arg2) (expertAt (F := F) (a.1 1) (place t.val)) :=
  ((dat2 V a n c).before_in_eq_fetched 5 rfl (fun _ => rfl) (fun _ _ _ => rfl) (fun u => (read_block5 a hr u _).symm) t d).trans (read_block5 a hr t _)
include hr in
theorem before2_6 (t) (d) : (dat2 V a n c).before (6 : Fin 9) t d = expertBlock (V c main_arg3) (expertAt (F := F) (a.1 1) (place t.val)) :=
  ((dat2 V a n c).before_in_eq_fetched 6 rfl (fun _ => rfl) (fun _ _ _ => rfl) (fun u => (read_block6 a hr u _).symm) t d).trans (read_block6 a hr t _)
include hr in
theorem before2_7 (t) (d) : (dat2 V a n c).before (7 : Fin 9) t d = expertBlock (V c main_arg4) (expertAt (F := F) (a.1 1) (place t.val)) :=
  ((dat2 V a n c).before_in_eq_fetched 7 rfl (fun _ => rfl) (fun _ _ _ => rfl) (fun u => (read_block7 a hr u _).symm) t d).trans (read_block7 a hr t _)

/-- The result's buffer, as the body at a point takes it: what the points before left. -/
theorem before2_8 (t : Fin (cfg2 a).N) (d) : soFar (F := F) t.val ((dat2 V a n c).before (8 : Fin 9) t d) = summed V a c t.val := by
  by_cases ht : t.val = 0
  · exact (if_pos ht).trans (by rw [ht]; rfl)
  · have hfl : (win2 a 8).flush ⟨t.val - 1, Nat.lt_of_le_of_lt (Nat.sub_le _ _) t.isLt⟩ = false := by
      rw [flush_result]; exact decide_eq_false (by have := t.isLt; show ¬ (t.val - 1 + 1 = _); omega)
    have h := (dat2 V a n c).before_out_kept 8 rfl t ht hfl (fun _ => rfl) (fun _ _ => rfl) d
    rw [h]
    show soFar t.val (summed V a c (t.val - 1 + 1)) = _
    rw [Nat.sub_add_cancel (Nat.pos_of_ne_zero ht)]
    exact soFar_summed V a c t.val

include hr in
/-- The result's array after the last point. -/
theorem final2_8 : (dat2 V a n c).arrAt 8 (cfg2 a).N = summed V a c (dynb2 a.1 0) := by
  have hN := points a
  have h1 := hr.some_point
  have hlt : (cfg2 a).N - 1 < (cfg2 a).N := by omega
  have h := (dat2 V a n c).arrAt_succ 8 ⟨(cfg2 a).N - 1, hlt⟩
  rw [if_pos (by
    show (win2 a 8).flush _ = true
    rw [flush_result]; exact decide_eq_true (Nat.sub_add_cancel (by omega)))] at h
  have hs : (cfg2 a).N - 1 + 1 = (cfg2 a).N := Nat.sub_add_cancel (by omega)
  have h2 := h.trans (Memref.write_access_unit_zero_univ (Elt F) main_v7 (two_zero _ S64x768.size zero_index) _ _ _)
  have h3 : (dat2 V a n c).arrAt 8 ((cfg2 a).N - 1 + 1) = summed V a c ((cfg2 a).N - 1 + 1) := h2
  rw [hs] at h3
  rw [h3, hN]

include hr in
theorem body2 : BodyObligation (dat2 V a n c) (defs₀ (F := F)) 𝒱₀ none Set.univ := fun t => by
  rw [bigSep_W2, bigSep_W2]
  rw [show (dat2 V a n c).Φ t.castSucc = iprop(tables a c ∗ spare2 c) from rfl, show (dat2 V a n c).Φ t.succ = iprop(tables a c ∗ spare2 c) from rfl,
    show (dat2 V a n c).owesAt none t.succ = (dat2 V a n c).owesAt none t.castSucc from rfl]
  rw [tables_eq]
  iintro ⟨⟨⟨Hc, Ht⟩, HΦ⟩, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  rw [before2_0, before2_1, before2_2, before2_3, before2_4, before2_5 V a hr, before2_6 V a hr, before2_7 V a hr]
  have hrun := fun h2 h3 h4 h5 h6 h7 h8 h9 h10 => expert_at c (dynb2 a.1) (Pipeline.Grid.Coords.static grid2 ((grid2.at (dynb2 a.1)).coords t))
    ((win2 a 0).stage ((cfg2 a).slots t 0)) h2 ((win2 a 1).stage ((cfg2 a).slots t 1)) ((win2 a 2).stage ((cfg2 a).slots t 2)) h3 h4
    ((win2 a 3).stage ((cfg2 a).slots t 3)) ((win2 a 4).stage ((cfg2 a).slots t 4)) h5 h6
    ((win2 a 5).stage ((cfg2 a).slots t 5)) ((win2 a 6).stage ((cfg2 a).slots t 6)) ((win2 a 7).stage ((cfg2 a).slots t 7)) h7 h8 h9
    ((win2 a 8).stage ((cfg2 a).slots t 8)) h10 (place t.val) (BitVec.ofNat 32 ((grid2.at (dynb2 a.1)).coords t 0).val)
    (congrArg (BitVec.ofNat 32) (coords_place a hr t)) (a.1 1) (V c main_v0) (V c main_v1_1) (V c main_v1_2) (V c main_v1_3) (V c main_v1_4)
    (expertBlock (V c main_arg2) (expertAt (F := F) (a.1 1) (place t.val))) (expertBlock (V c main_arg3) (expertAt (F := F) (a.1 1) (place t.val)))
    (expertBlock (V c main_arg4) (expertAt (F := F) (a.1 1) (place t.val))) ((dat2 V a n c).before (8 : Fin 9) t d8) (summed V a c t.val)
    ((congrArg (soFar · _) (place_val a hr t)).trans (before2_8 V a n c t d8))
  iapply (hrun _ _ _ _ _ _ _ _ _ _)
  unfold windows
  isplitl [Ht]; · iexact Ht
  isplitl [H0 H1 H2 H3 H4 H5 H6 H7 H8]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  iintro Ht ⟨H0, H1, H2, H3, H4, H5, H6, H7, H8⟩
  isplitl [Hc Ht HΦ]
  · isplitl [Hc Ht]
    · isplitl [Hc]; · iexact Hc
      iexact Ht
    iexact HΦ
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

variable [∀ e, Nonempty (Elt F e)] (adm : (p : Fin 2) → (pcfgs (F := F) p).Adm)

def dats2 (n : ℕ) : (p : Fin 2) → (c : Dev nD) → Dat τ (Elt F) (HIx 1) ℕ UU ℕ (Pipeline.pin (pcfgs (F := F)) adm p) c
  | ⟨0, _⟩ => fun c => anyDat c
  | ⟨1, _⟩ => fun c => dat2 V (adm 1) n c

set_option backward.isDefEq.respectTransparency.types false in
/-- The experts' call, from every unscoped buffer of the TensorCore at `V` — the tables' at contents the call runs at — to every one at
    `V'`, the TensorCore owing what it owes. -/
def expertCall (n : ℕ) (hr : InRange (adm 1).1) (hT : ∀ c, V c main_v5 = (adm 1).1 0) (hT' : ∀ c, V c main_v6 = (adm 1).1 1)
    (hV : ∀ c, SummedTo V V' (adm 1) c) :
    Pipeline.RegionSeg (pcfgs (F := F)) adm (dats2 V adm n) none defs₀ 𝒱₀ (K (F := F)).L (K (F := F)).lev 1 where
  win := (launch2 (F := F)).win.to₀
  block_pos := (launch2 (F := F)).block_pos
  stage_whole := (launch2 (F := F)).stage_whole
  K := PEmpty
  osem k := k.elim
  ho := Pipeline.OwnSemFacts.none _
  hbody c := (body2 V (adm 1) hr n c).loose
  hwaits c := Pipeline.cellsWaits_intro _ _ _ 1 c fun w s t =>
    (K (F := F)).mayWait_none _ (fun g => otc_none c n g)
  pre c := iprop(unscopedBufs c (V c) ∗ owing (F := F) c n)
  post c := iprop(unscopedBufs c (V' c) ∗ owing (F := F) c n)
  X _ := BI.emp
  Y c := tables (adm 1) c
  Z c := Pipeline.unscopedRestP (Ix := HIx 1) (Name := ℕ) (U := UU) (Lvl := ℕ) pre2 spec2 c (V c)
  hentry c := by
    have hsplit := Pipeline.arrays_of_unscopedBufs (p := 1) (pcfgs (F := F)) adm (dats2 V adm n) (launch2 (F := F)).win (launch2 (F := F)).arr_whole c
      ((dats2 V adm n 1 c).share_full fun _ => rfl) (V c) fun _ => rfl
    have hrest : Pipeline.unscopedRest (Pipeline.pin (pcfgs (F := F)) adm 1).spec c (V c) = _ := Pipeline.unscopedRest_split (Ix := HIx 1) (Name := ℕ) (U := UU) (Lvl := ℕ) preFacts2 c (V c)
    have htab : (fun k => V c (pre2.ref k)) = (adm 1).1 := by
      funext k; fin_cases k
      · exact hT c
      · exact hT' c
    rw [hrest, htab] at hsplit
    rw [Pipeline.ownSems0_none]
    iintro ⟨⟨Hub, %W, %hW, HO⟩, -, -⟩
    ihave H := hsplit $$ Hub
    icases H with ⟨Ha, Ht, Hrest⟩
    imodintro
    isplitl [Ha]; · iexact Ha
    isplitl [Ht]; · iexact Ht
    isplitl [HO]
    · unfold Pipeline.Dat.owesAt Pipeline.owesWithin
      iexists W; isplitr; · ipureintro; exact fun p hp => Or.inl (hW p hp)
      iexact HO
    isplitr; · iempintro
    iexact Hrest
  hin c := by
    rw [show (dats2 V adm n 1 c).Φ 0 = iprop(tables (adm 1) c ∗ spare2 c) from rfl]
    iintro ⟨-, Ht, Hr⟩
    isplitl [Ht] <;> iassumption
  hout c := by
    rw [Pipeline.ownSems0_none, show (dats2 V adm n 1 c).Φ (Fin.last _) = iprop(tables (adm 1) c ∗ spare2 c) from rfl]
    iintro ⟨Ht, Hr⟩
    isplitl [Ht]; · iexact Ht
    isplitr; · iempintro
    iexact Hr
  hexit c := by
    have hjoin := Pipeline.unscopedBufs_of_arrays (p := 1) (pcfgs (F := F)) adm (Ix := HIx 1) (Name := ℕ) (U := UU) (Lvl := ℕ) (launch2 (F := F)).win (launch2 (F := F)).arr_whole c
      (dats2 V adm n) ((dats2 V adm n 1 c).share_full fun _ => rfl) (V c) (V' c) ((dats2 V adm n 1 c).arrAt · (cfg2 (adm 1)).N)
      (fun w => by
        fin_cases w
        · exact ((dats2 V adm n 1 c).arrAt_in (0 : Fin 9) rfl _).trans ((hV c).rest main_v0 (by decide)).symm
        · exact ((dats2 V adm n 1 c).arrAt_in (1 : Fin 9) rfl _).trans ((hV c).rest main_v1_1 (by decide)).symm
        · exact ((dats2 V adm n 1 c).arrAt_in (2 : Fin 9) rfl _).trans ((hV c).rest main_v1_2 (by decide)).symm
        · exact ((dats2 V adm n 1 c).arrAt_in (3 : Fin 9) rfl _).trans ((hV c).rest main_v1_3 (by decide)).symm
        · exact ((dats2 V adm n 1 c).arrAt_in (4 : Fin 9) rfl _).trans ((hV c).rest main_v1_4 (by decide)).symm
        · exact ((dats2 V adm n 1 c).arrAt_in (5 : Fin 9) rfl _).trans ((hV c).rest main_arg2 (by decide)).symm
        · exact ((dats2 V adm n 1 c).arrAt_in (6 : Fin 9) rfl _).trans ((hV c).rest main_arg3 (by decide)).symm
        · exact ((dats2 V adm n 1 c).arrAt_in (7 : Fin 9) rfl _).trans ((hV c).rest main_arg4 (by decide)).symm
        · exact (final2_8 V (adm 1) hr n c).trans (hV c).result.symm)
      (fun b hb => (hV c).rest b (fun h => hb (h ▸ Finset.mem_image.mpr ⟨8, Finset.mem_univ _, rfl⟩)))
    have hrest : Pipeline.unscopedRest (Pipeline.pin (pcfgs (F := F)) adm 1).spec c (V c) = _ := Pipeline.unscopedRest_split (Ix := HIx 1) (Name := ℕ) (U := UU) (Lvl := ℕ) preFacts2 c (V c)
    have htab : (fun k => V c (pre2.ref k)) = (adm 1).1 := by
      funext k; fin_cases k
      · exact hT c
      · exact hT' c
    rw [hrest, htab] at hjoin
    iintro ⟨Ha, HO, Ht, Hrest⟩
    imodintro
    isplitl [Ha Ht Hrest]
    · iapply hjoin; isplitl [Ha]; · iexact Ha
      isplitl [Ht]; · iexact Ht
      iexact Hrest
    unfold Pipeline.Dat.owesAt Pipeline.owesWithin
    icases HO with ⟨%W, %hW, HO⟩
    iexists W; isplitr; swap; · iexact HO
    ipureintro
    intro p hp
    rcases hW hp with h | ⟨w, s, rfl⟩
    · exact h
    · exact Nat.zero_le _

end Cert.Proof

end
-- ==== Proof.Steps.lean ====
/-
  The buffers' contents after each of the program's operations, from the launch memory to the results.
-/
module

public import proofs.«01_k».proof.Proof.Handshake
public import proofs.«01_k».proof.Proof.RouterCall
public import proofs.«01_k».proof.Proof.ExpertCall

@[expose] public section

set_option maxRecDepth 16384

noncomputable section

namespace Cert.Proof

open Cert.KernelIdeal Cert.KernelIdeal.Gen
open Idealize.ShloMosaic Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig (HIx 1) (Elt F) ℕ UU ℕ

/-! ## The buffers through the program

`step0` is the launch memory; each next one is what the next operation leaves. -/

variable (m : (ℓ : Loc nD τ sig) → Buf (Elt F) ℓ) (c : Dev nD)

/-- @main's operations on the host. -/
abbrev opTokens : HloOp τ sig (Elt F) := StableHlo.reshape main_arg0 main_v0 (rfl : (.f32 : EltTy) = .f32) shapeCasts_S8x8x768_S64x768
abbrev opWords : HloOp τ sig (Elt F) := StableHlo.reshape main_v1_0 main_v2 (rfl : (.i32 : EltTy) = .i32) shapeCasts_S128x1_S128
abbrev opCount : HloOp τ sig (Elt F) :=
  StableHlo.unary main_v3 main_v4 ((extractStridedSlice S1 ![64] · slices_S80_S1_64) : (⟨S80, .i32⟩ : BufTy).Contents (Elt F) → (⟨S1, .i32⟩ : BufTy).Contents (Elt F))
abbrev opCount' : HloOp τ sig (Elt F) := StableHlo.reshape main_v4 main_v5 (rfl : (.i32 : EltTy) = .i32) shapeCasts_S1_S_
abbrev opList : HloOp τ sig (Elt F) :=
  StableHlo.unary main_v3 main_v6 ((extractStridedSlice S64 ![0] · slices_S80_S64_0) : (⟨S80, .i32⟩ : BufTy).Contents (Elt F) → (⟨S64, .i32⟩ : BufTy).Contents (Elt F))
abbrev opResult : HloOp τ sig (Elt F) := StableHlo.reshape main_v7 main_v8 (rfl : (.f32 : EltTy) = .f32) shapeCasts_S64x768_S8x8x768
abbrev opLoss : HloOp τ sig (Elt F) := StableHlo.reshape main_v1_5 main_v9 (rfl : (.f32 : EltTy) = .f32) shapeCasts_S1x1_S_

abbrev Held (F : FTy → Type) : Type := Valuation τ sig (Elt F)

/-- `W` with the buffer `b` at `f`. -/
def put (W : Held F) (b : Ref sig .tc) (f : b.ty.Contents (Elt F)) : Held F := Function.update W (Proc.devRef .tc b) f

theorem put_self (W : Held F) (b : Ref sig .tc) (f : b.ty.Contents (Elt F)) : put W b f (Proc.devRef .tc b) = f := Function.update_self _ _ _
theorem put_ne (W : Held F) {b r : Ref sig .tc} (f : b.ty.Contents (Elt F)) (h : r ≠ b) : put W b f (Proc.devRef .tc r) = W (Proc.devRef .tc r) :=
  Function.update_of_ne (StableHlo.devRef_ne_of_ne h) _ _

/-- The router's call: its six results, from the tokens and the router's weights. -/
def routedFrom (W : Held F) : Held F :=
  let x : Vec F S64x768 .f32 := W main_v0
  let w : Vec F S64x768 .f32 := W main_arg1
  put (put (put (put (put (put W main_v1_0 (routed x w)) main_v1_1 (k0_pay6 x w)) main_v1_2 (k0_pay9 x w))
    main_v1_3 (k0_pay1 (k0_pay5 x w) (k0_pay10 x w))) main_v1_4 (k0_pay2 (k0_pay8 x w) (k0_pay10 x w)))
    main_v1_5 (k0_pay3 (k0_pay4 x w) (iota .tc S64x64 32 [1] iota_S64x64_d1_w32) (k0_pay6 x w))

/-- The sparse cores' call: the list of the chosen experts and their number, from the words. -/
def listedFrom (W : Held F) : Held F := put W main_v3 (dispatch (W main_v2) : IVec S80 32)

/-- The experts' two tables, as found in the buffers. -/
def tablesOf (W : Held F) : pre2.Contents (Elt F) := fun k => W (Proc.devRef .tc (pre2.ref k))

abbrev step0 : Held F := fun b => m (c, b)
abbrev step1 : Held F := opTokens.result (step0 m c)
abbrev step2 : Held F := routedFrom (step1 m c)
abbrev step3 : Held F := opWords.result (step2 m c)
abbrev step4 : Held F := listedFrom (step3 m c)
abbrev step5 : Held F := opCount.result (step4 m c)
abbrev step6 : Held F := opCount'.result (step5 m c)
abbrev step7 : Held F := opList.result (step6 m c)

/-! ### A buffer that an operation does not write -/

theorem step1_ne {r : Ref sig .tc} (h : r ≠ main_v0) : step1 m c (Proc.devRef .tc r) = m (c, Proc.devRef .tc r) := StableHlo.reshape_result_ne _ _ _ _ _ _ _ h
theorem step2_ne {r : Ref sig .tc} (h0 : r ≠ main_v1_0) (h1 : r ≠ main_v1_1) (h2 : r ≠ main_v1_2) (h3 : r ≠ main_v1_3) (h4 : r ≠ main_v1_4)
    (h5 : r ≠ main_v1_5) : step2 m c (Proc.devRef .tc r) = step1 m c (Proc.devRef .tc r) := by
  unfold step2 routedFrom
  simp only
  rw [put_ne _ _ h5, put_ne _ _ h4, put_ne _ _ h3, put_ne _ _ h2, put_ne _ _ h1, put_ne _ _ h0]
theorem step3_ne {r : Ref sig .tc} (h : r ≠ main_v2) : step3 m c (Proc.devRef .tc r) = step2 m c (Proc.devRef .tc r) := StableHlo.reshape_result_ne _ _ _ _ _ _ _ h
theorem step4_ne {r : Ref sig .tc} (h : r ≠ main_v3) : step4 m c (Proc.devRef .tc r) = step3 m c (Proc.devRef .tc r) := put_ne _ _ h
theorem step5_ne {r : Ref sig .tc} (h : r ≠ main_v4) : step5 m c (Proc.devRef .tc r) = step4 m c (Proc.devRef .tc r) := StableHlo.unary_result_ne _ _ _ _ _ _ h
theorem step6_ne {r : Ref sig .tc} (h : r ≠ main_v5) : step6 m c (Proc.devRef .tc r) = step5 m c (Proc.devRef .tc r) := StableHlo.reshape_result_ne _ _ _ _ _ _ _ h
theorem step7_ne {r : Ref sig .tc} (h : r ≠ main_v6) : step7 m c (Proc.devRef .tc r) = step6 m c (Proc.devRef .tc r) := StableHlo.unary_result_ne _ _ _ _ _ _ h

/-! ### The experts' tables -/

/-- The count read off the list's 65th entry. -/
theorem slice_count (f : IVec S80 32) (j : S_.Idx) :
    shapeCast S_ (extractStridedSlice S1 ![64] f slices_S80_S1_64) shapeCasts_S1_S_ j = f (at1 80 64 (by decide)) := by
  refine congrArg f (funext fun a => Fin.ext ?_)
  obtain rfl : a = (0 : Fin 1) := Subsingleton.elim (α := Fin 1) a 0
  have : ((Shape.reshapeEquiv shapeCasts_S1_S_ j) 0 : ℕ) < 1 := ((Shape.reshapeEquiv shapeCasts_S1_S_ j) 0).isLt
  show 64 + ((Shape.reshapeEquiv shapeCasts_S1_S_ j) 0 : ℕ) = 64
  omega

/-- The experts' numbers are the list's first 64 entries. -/
theorem slice_list (f : IVec S80 32) (j : S64.Idx) :
    extractStridedSlice S64 ![0] f slices_S80_S64_0 j = f (at1 80 (j 0).val ((j 0).isLt.trans (by decide))) := by
  refine congrArg f (funext fun a => Fin.ext ?_)
  obtain rfl : a = (0 : Fin 1) := Subsingleton.elim (α := Fin 1) a 0
  exact Nat.zero_add _

theorem step4_list : (step4 m c main_v3 : IVec S80 32) = dispatch (step3 m c main_v2) := put_self _ _ _

theorem step7_count (j : S_.Idx) : (step7 m c main_v5 : IVec S_ 32) j = dispatch (step3 m c main_v2) (at1 80 64 (by decide)) := by
  have h5 : (step5 m c main_v4 : IVec S1 32) = extractStridedSlice S1 ![64] (step4 m c main_v3 : IVec S80 32) slices_S80_S1_64 := StableHlo.unary_result _ _ _ _ _ _
  have h6 : (step6 m c main_v5 : IVec S_ 32) = shapeCast S_ (step5 m c main_v4 : IVec S1 32) shapeCasts_S1_S_ := StableHlo.reshape_result _ _ _ _ _ _ _
  rw [step7_ne m c (by decide), h6, h5, step4_list]
  exact slice_count _ j

theorem step7_list (j : S64.Idx) : (step7 m c main_v6 : IVec S64 32) j = dispatch (step3 m c main_v2) (at1 80 (j 0).val ((j 0).isLt.trans (by decide))) := by
  have h7 : (step7 m c main_v6 : IVec S64 32) = extractStridedSlice S64 ![0] (step6 m c main_v3 : IVec S80 32) slices_S80_S64_0 := StableHlo.unary_result _ _ _ _ _ _
  rw [h7, step6_ne m c (by decide), step5_ne m c (by decide), step4_list]
  exact slice_list _ j

/-- The number of the experts' points is that of the chosen experts. -/
theorem points_eq_rank : dynb2 (tablesOf (step7 m c)) 0 = rank (step3 m c main_v2) 64 := by
  show ((step7 m c main_v5 : IVec S_ 32) fun a => a.elim0).toNat = _
  rw [step7_count]
  exact dispatch_count _ _ (Nat.le_refl 64)

theorem tables_inRange : InRange (tablesOf (step7 m c)) where
  some_point := by rw [points_eq_rank]; exact rank_pos _
  count := by rw [points_eq_rank]; exact rank_le _
  number := fun (x : S64.Idx) => by
    exact (congrArg BitVec.toNat (step7_list m c x)).trans_lt (dispatch_lt _ _ (x 0).isLt)

/-- The tables' contents in the launch from `m` (the mesh has one device). -/
def admOf : (p : Fin 2) → (pcfgs (F := F) p).Adm
  | 0 => cfg0.toPCfg_adm
  | 1 => ⟨tablesOf (step7 m 0), ok_of (tables_inRange m 0)⟩

/-- The experts' call: its result, from the buffers it reads. -/
def summedFrom (W : Held F) : Held F :=
  put W main_v7 (summed (fun _ b => W (Proc.devRef .tc b)) (admOf m 1) c (dynb2 (admOf m 1).1 0))

abbrev step8 : Held F := summedFrom m c (step7 m c)
abbrev step9 : Held F := opResult.result (step8 m c)
abbrev step10 : Held F := opLoss.result (step9 m c)

theorem step8_ne {r : Ref sig .tc} (h : r ≠ main_v7) : step8 m c (Proc.devRef .tc r) = step7 m c (Proc.devRef .tc r) := put_ne _ _ h
theorem step9_ne {r : Ref sig .tc} (h : r ≠ main_v8) : step9 m c (Proc.devRef .tc r) = step8 m c (Proc.devRef .tc r) := StableHlo.reshape_result_ne _ _ _ _ _ _ _ h
theorem step10_ne {r : Ref sig .tc} (h : r ≠ main_v9) : step10 m c (Proc.devRef .tc r) = step9 m c (Proc.devRef .tc r) := StableHlo.reshape_result_ne _ _ _ _ _ _ _ h

/-- A valuation on every device as the calls' proofs take it. -/
abbrev onDevices (W : Dev nD → Held F) : Contents F := fun c b => W c (Proc.devRef .tc b)

theorem routedTo : RoutedTo (onDevices (step1 m)) (onDevices (step2 m)) c where
  words := by
    show step2 m c (Proc.devRef .tc main_v1_0) = _
    unfold step2 routedFrom; simp only
    rw [put_ne _ _ (by decide), put_ne _ _ (by decide), put_ne _ _ (by decide), put_ne _ _ (by decide), put_ne _ _ (by decide), put_self]
  first := by
    show step2 m c (Proc.devRef .tc main_v1_1) = _
    unfold step2 routedFrom; simp only
    rw [put_ne _ _ (by decide), put_ne _ _ (by decide), put_ne _ _ (by decide), put_ne _ _ (by decide), put_self]
  second := by
    show step2 m c (Proc.devRef .tc main_v1_2) = _
    unfold step2 routedFrom; simp only
    rw [put_ne _ _ (by decide), put_ne _ _ (by decide), put_ne _ _ (by decide), put_self]
  weight := by
    show step2 m c (Proc.devRef .tc main_v1_3) = _
    unfold step2 routedFrom; simp only
    rw [put_ne _ _ (by decide), put_ne _ _ (by decide), put_self]
  weight' := by
    show step2 m c (Proc.devRef .tc main_v1_4) = _
    unfold step2 routedFrom; simp only
    rw [put_ne _ _ (by decide), put_self]
  loss := put_self _ _ _
  rest := fun _ h0 h1 h2 h3 h4 h5 => step2_ne m c h0 h1 h2 h3 h4 h5

theorem summed_here (V V' : Contents F) (a : (pcfg2 (F := F)).Adm) (c : Dev nD) (h : V c = V' c) (n : ℕ) : summed V a c n = summed V' a c n := by
  induction n with
  | zero => rfl
  | succ n ih => unfold summed; rw [ih, h]

theorem step8_result : (step8 m c main_v7 : Vec F S64x768 .f32)
    = summed (onDevices (step7 m)) (admOf m 1) c (dynb2 (admOf m 1).1 0) :=
  (put_self _ _ _).trans (summed_here (fun _ b => step7 m c (Proc.devRef .tc b)) (onDevices (step7 m)) (admOf m 1) c rfl _)

theorem summedTo : SummedTo (onDevices (step7 m)) (onDevices (step8 m)) (admOf m 1) c where
  result := step8_result m c
  rest := fun _ h => step8_ne m c h

end Cert.Proof

end
-- ==== Proof.Launch.lean ====
/-
  The whole program's run: the host's operations, the two calls on the TensorCore and the one on the sparse cores, put
  together by the launch theorem.
-/
module

public import proofs.«01_k».proof.Proof.Steps

@[expose] public section

set_option maxRecDepth 16384

noncomputable section

namespace Cert.Proof

open Cert.KernelIdeal Cert.KernelIdeal.Gen
open Idealize.ShloMosaic Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig (HIx 1) (Elt F) ℕ UU ℕ

open Idealize.ShloMosaic.SparseCore (S V T)
open Idealize.ShloMosaic.StableHlo (held wp_hlo_within)

variable [∀ e, Nonempty (Elt F e)]
variable (m : (ℓ : Loc nD τ sig) → Buf (Elt F) ℓ) (ρ : Dev nD → PrngReg)

/-- The words and the list's buffer, as the sparse cores' call finds them. -/
abbrev wordsOf (d : Dev nD) : Buf (Elt F) (v2Loc d) := step3 m d main_v2
abbrev listBefore (d : Dev nD) : Buf (Elt F) (v3Loc d) := step3 m d main_v3
abbrev Pm : (K (F := F)).Pay (nD := nD) (Val := Elt F) (Name := ℕ) (U := UU) := P (wordsOf m) (listBefore m)

/-! ## The launch's ghost state: the handshakes' rounds and the two pipelines' -/

abbrev pin2 (p : Fin 2) : Cfg sig Λ₀ := Pipeline.pin pcfgs (admOf m) p

def u₀ : UU := (initOf (K (F := F)).hsCells (K (F := F)).hsToks,
  (initOf (Pipeline.cells (pin2 m) (cellOf_inj (admOf m))) (Pipeline.launchToks (pin2 m) (cellOf_inj (admOf m))), 1))

/-- What one device's @main gets: each pipeline's cells and tokens. -/
def G (d : Dev nD) : sProp 𝕄 :=
  iprop((bigSep Finset.univ fun p => Pipeline.cellsGhost (pin2 m) EP p d) ∗ (bigSep Finset.univ fun p => Pipeline.toksInit (pin2 m) EP p d))

/-- One pipeline's. -/
abbrev ghost (p : Fin 2) (d : Dev nD) : sProp 𝕄 := iprop(Pipeline.cellsGhost (pin2 m) EP p d ∗ Pipeline.toksInit (pin2 m) EP p d)

theorem G_parts (d : Dev nD) : G m d ⊢ iprop(ghost m 0 d ∗ ghost m 1 d) := by
  have h (Φ : Fin 2 → sProp 𝕄) : bigSep Finset.univ Φ = iprop(Φ 0 ∗ Φ 1) := bigSep_univ_eq_bigSepL [0, 1] (by decide) (by decide) Φ
  unfold G
  rw [h, h]
  iintro ⟨⟨H0, H1⟩, ⟨T0, T1⟩⟩
  isplitl [H0 T0]
  · isplitl [H0]; · iexact H0
    iexact T0
  · isplitl [H1]; · iexact H1
    iexact T1

theorem hu₀ : (ownU (u₀ m) : sProp 𝕄)
    ⊢ |={Set.univ}=> iprop(BI.own (EH (initOf (K (F := F)).hsCells (K (F := F)).hsToks)) ∗ (bigSep Finset.univ (G m))
        ∗ bigSep Finset.univ fun thr : Thread nD τ => bigSep Finset.univ fun q : Fin 1 => (Pm m).x q thr) := by
  unfold u₀
  iintro Hu
  ihave H := (ownU_parts _ _) $$ Hu
  icases H with ⟨HH, HP⟩
  imod (Pipeline.fund_ghost (pin2 m) EP (cellOf_inj (admOf m))) $$ HP with ⟨Hc, Ht⟩
  imodintro
  isplitl [HH]; · iexact HH
  isplitl [Hc Ht]
  · unfold G
    rw [bigSep_sep']
    isplitl [Hc]; · iexact Hc
    iexact Ht
  rw [show (bigSep Finset.univ fun thr : Thread nD τ => bigSep Finset.univ fun q : Fin 1 => (Pm (F := F) m).x q thr)
      = bigSep Finset.univ fun _ : Thread nD τ => (iprop(emp) : sProp 𝕄) from bigSep_congr fun _ _ => bigSep_univ_of_subsingleton (0 : Fin 1),
    show (bigSep Finset.univ fun _ : Thread nD τ => (iprop(emp) : sProp 𝕄)) = iprop(emp) from bigSep_emp_const _]
  iempintro

/-! ## The TensorCore's two calls, in @main -/

/-- A call's region run from @main: the boundary, the buffers, what the thread owes and the pipeline's ghost state in,
    the boundary, the buffers and what it owes out. -/
theorem wp_call {p : Fin 2} {pd : (p : Fin 2) → (c : Dev nD) → Dat τ (Elt F) (HIx 1) ℕ UU ℕ (Pipeline.pin pcfgs (admOf m) p) c}
    (R : Pipeline.RegionSeg (pcfgs (F := F)) (admOf m) pd none defs₀ 𝒱₀ (K (F := F)).L (K (F := F)).lev p) (d : Dev nD) (A B : sProp 𝕄)
    (hA : R.pre d = A) (hB : R.post d = B) (Φ : PUnit → sProp 𝕄) :
    iprop((iprop(boundary (T d) ∗ B) -∗ Φ ⟨⟩) ∗ boundary (T d) ∗ A ∗ levAts (K (F := F)).L (K (F := F)).lev ∗ ghost m p d)
      ⊢ wp frame (wpE ((K (F := F)).defs (D (F := F))) 𝒱 (T d) none) Set.univ
          (Prog.lift (.customCall (SparseCore.inner (Pipeline.entry p)) ())) Φ := by
  subst hA hB
  refine BI.Entails.trans ?_ ((K (F := F)).wp_liftProg (D (F := F)) 𝒱 (T d) Set.univ none (Prog.lift (.customCall (Pipeline.entry p) ())) Φ)
  refine BI.Entails.trans ?_ (Pipeline.RegionSeg.wp (pcfgs (F := F)) (admOf m) pd none (cellOf_inj (admOf m)) EP defs₀ 𝒱₀ _ _ R d none
    (fun _ h => nomatch h) (fun x => .ret x) Φ)
  show (_ : sProp 𝕄) ⊢ _
  iintro ⟨Hk, Hb, Hpre, Hlv, Hg⟩
  isplitl [Hk]
  · iintro H
    rw [wp_ret]; imodintro
    iapply Hk; iexact H
  isplitl [Hb]; · iexact Hb
  isplitl [Hpre]; · iexact Hpre
  isplitl [Hlv]; · iexact Hlv
  iexact Hg

/-- The call's state is what the thread owes and the rest of it. -/
theorem tcSt_owing (d : Dev nD) (n : ℕ) : ∃ R : sProp 𝕄, (K (F := F)).tcSt EH d n = iprop(owing d n ∗ R) := ⟨_, rfl⟩

/-- The buffers that the program holds throughout. -/
abbrev bufs : Finset (DevRef τ sig) := Pipeline.ucRefs τ sig

theorem tokens_sub : (opTokens (F := F)).bufs ⊆ bufs := by
  show ({Proc.devRef .tc main_arg0, Proc.devRef .tc main_v0} : Finset (DevRef τ sig)) ⊆ bufs; decide +kernel
theorem words_sub : (opWords (F := F)).bufs ⊆ bufs := by
  show ({Proc.devRef .tc main_v1_0, Proc.devRef .tc main_v2} : Finset (DevRef τ sig)) ⊆ bufs; decide +kernel
theorem count_sub : (opCount (F := F)).bufs ⊆ bufs := by
  show ({Proc.devRef .tc main_v3, Proc.devRef .tc main_v4} : Finset (DevRef τ sig)) ⊆ bufs; decide +kernel
theorem count'_sub : (opCount' (F := F)).bufs ⊆ bufs := by
  show ({Proc.devRef .tc main_v4, Proc.devRef .tc main_v5} : Finset (DevRef τ sig)) ⊆ bufs; decide +kernel
theorem list_sub : (opList (F := F)).bufs ⊆ bufs := by
  show ({Proc.devRef .tc main_v3, Proc.devRef .tc main_v6} : Finset (DevRef τ sig)) ⊆ bufs; decide +kernel
theorem result_sub : (opResult (F := F)).bufs ⊆ bufs := by
  show ({Proc.devRef .tc main_v7, Proc.devRef .tc main_v8} : Finset (DevRef τ sig)) ⊆ bufs; decide +kernel
theorem loss_sub : (opLoss (F := F)).bufs ⊆ bufs := by
  show ({Proc.devRef .tc main_v1_5, Proc.devRef .tc main_v9} : Finset (DevRef τ sig)) ⊆ bufs; decide +kernel

/-- The two buffers of the sparse cores' call. -/
abbrev callBufs : Finset (DevRef τ sig) := {Proc.devRef .tc main_v2, Proc.devRef .tc main_v3}

theorem callBufs_sub : callBufs ⊆ bufs := by decide +kernel

theorem held_callBufs (d : Dev nD) (W : Held F) :
    (held (T d) callBufs W : sProp 𝕄) = iprop((v2Loc d ↦{fullShare} W main_v2) ∗ (v3Loc d ↦{fullShare} W main_v3)) := by
  unfold StableHlo.held
  rw [bigSep_eq_bigSepL_of_eq [Proc.devRef .tc main_v2, Proc.devRef .tc main_v3] (by decide) (by decide)]
  rfl

theorem st_eq (d : Dev nD) : (bigSep Finset.univ fun c : Fin ((K (F := F)).nCore 0) => (Pm m).st 0 d c) = given (wordsOf m) (listBefore m) d :=
  only_first (show 0 < 2 by decide) _
theorem dn_eq (d : Dev nD) : (bigSep Finset.univ fun c : Fin ((K (F := F)).nCore 0) => (Pm m).dn 0 d c) = brought (wordsOf m) d :=
  only_first (show 0 < 2 by decide) _

/-- The buffers before the sparse cores' call: its two and the others, -/
theorem before_call (d : Dev nD) :
    (held (T d) bufs (step3 m d) : sProp 𝕄) = iprop(given (wordsOf m) (listBefore m) d ∗ held (T d) (bufs \ callBufs) (step3 m d)) := by
  rw [StableHlo.held_sub_split (T d) callBufs_sub, held_callBufs]
/-- and after it: the list's is at the list. -/
theorem after_call (d : Dev nD) :
    (held (T d) bufs (step4 m d) : sProp 𝕄) = iprop(brought (wordsOf m) d ∗ held (T d) (bufs \ callBufs) (step3 m d)) := by
  have h : (held (T d) (bufs \ callBufs) (step4 m d) : sProp 𝕄) = held (T d) (bufs \ callBufs) (step3 m d) :=
    StableHlo.held_congr (T d) fun b hb => Function.update_of_ne (fun e => (Finset.mem_sdiff.mp hb).2 (by rw [e]; simp)) _ _
  rw [StableHlo.held_sub_split (T d) callBufs_sub, held_callBufs, h, step4_ne m d (by decide), step4_list]

/-- The buffers and what the thread owes, as the calls' proofs state them. -/
theorem call_state (d : Dev nD) (W : Held F) (n : ℕ) :
    iprop(unscopedBufs d (fun b => W (Proc.devRef .tc b)) ∗ owing d n) = (iprop(held (T d) bufs W ∗ owing d n) : sProp 𝕄) := by
  rw [Pipeline.unscopedBufs_held]

theorem table_count (c : Dev nD) : onDevices (step7 m) c main_v5 = (admOf m 1).1 0 := by
  obtain rfl : c = 0 := Subsingleton.elim _ _
  rfl
theorem table_list (c : Dev nD) : onDevices (step7 m) c main_v6 = (admOf m 1).1 1 := by
  obtain rfl : c = 0 := Subsingleton.elim _ _
  rfl

/-- What @main leaves: every buffer at the last step's contents. -/
abbrev FIN (d : Dev nD) : sProp 𝕄 := held (T d) bufs (step10 m d)

theorem hmain (κ : GSem nD τ sig → ℕ) (d : Dev nD) :
    iprop((K (F := F)).ctx EH (Pm m) κ ∗ (K (F := F)).tcSt EH d 0 ∗ (K (F := F)).tcRes m ρ d ∗ G m d)
      ⊢ wp frame (wpE ((K (F := F)).defs (D (F := F))) 𝒱 (T d) none) Set.univ (main d)
          fun _ => iprop((K (F := F)).tcSt EH d 1 ∗ FIN m d ∗ (K (F := F)).tcEnd d) := by
  unfold SparseCore.Cfg.tcRes SparseCore.Cfg.tcEnd
  obtain ⟨R0, hR0⟩ := tcSt_owing (F := F) d 0
  obtain ⟨R1, hR1⟩ := tcSt_owing (F := F) d 1
  simp only [main, wp_bind, wp_pure]
  iintro ⟨#Hctx, Hst, ⟨Hb, Hbufs, Hts, -⟩, HG⟩
  ihave #Hlv := ((K (F := F)).ctx_levAts κ) $$ Hctx
  ihave HG := (G_parts m d) $$ HG
  icases HG with ⟨HG0, HG1⟩
  ihave Hheld := (Entails.of_eq (Pipeline.unscopedBufs_held (Ix := HIx 1) (Name := ℕ) (U := UU) (Lvl := ℕ) d (step0 m d))) $$ Hbufs
  iapply (wp_hlo_within 𝒱 (T d) none Set.univ (op := opTokens) (S := bufs) tokens_sub (V := step0 m d)) $$ [Hb Hheld]
  · isplitl [Hb]; · iexact Hb
    iexact Hheld
  iintro ⟨Hb, Hheld⟩
  rw [wp_ret]; imodintro
  ihave Hst := (Entails.of_eq hR0) $$ Hst
  icases Hst with ⟨HO, HR⟩
  iapply (wp_call m (routerCall (onDevices (step1 m)) (onDevices (step2 m)) (admOf m) 0 (routedTo m)) d
    iprop(held (T d) bufs (step1 m d) ∗ owing d 0) iprop(held (T d) bufs (step2 m d) ∗ owing d 0)
    (call_state d (step1 m d) 0) (call_state d (step2 m d) 0))
  isplitr [Hb Hheld HO HG0]
  rotate_left
  · isplitl [Hb]; · iexact Hb
    isplitl [Hheld HO]
    · isplitl [Hheld] <;> iassumption
    isplitr; · iexact Hlv
    iexact HG0
  iintro ⟨Hb, Hheld, HO⟩
  -- the words, and the sparse cores' call
  iapply (wp_hlo_within 𝒱 (T d) none Set.univ (op := opWords) (S := bufs) words_sub (V := step2 m d)) $$ [Hb Hheld]
  · isplitl [Hb]; · iexact Hb
    iexact Hheld
  iintro ⟨Hb, Hheld⟩
  rw [wp_ret]; imodintro
  ihave Hheld := (Entails.of_eq (before_call m d)) $$ Hheld
  icases Hheld with ⟨Hg, Hothers⟩
  iapply ((K (F := F)).wp_run (D (F := F)) 𝒱 (EH := EH) (P := Pm m) κ d 0)
  isplitr; · iexact Hctx
  isplitl [HO HR]
  · iapply (Entails.of_eq hR0.symm)
    isplitl [HO] <;> iassumption
  isplitl [Hg]
  · rw [st_eq]; iexact Hg
  iintro ⟨Hst, Hdn⟩
  ihave Hdn := (Entails.of_eq (dn_eq m d)) $$ Hdn
  ihave Hheld := (Entails.of_eq (after_call m d).symm) $$ [Hdn Hothers]
  · isplitl [Hdn] <;> iassumption
  -- the experts' tables
  iapply (wp_hlo_within 𝒱 (T d) none Set.univ (op := opCount) (S := bufs) count_sub (V := step4 m d)) $$ [Hb Hheld]
  · isplitl [Hb]; · iexact Hb
    iexact Hheld
  iintro ⟨Hb, Hheld⟩
  rw [wp_ret]; imodintro
  iapply (wp_hlo_within 𝒱 (T d) none Set.univ (op := opCount') (S := bufs) count'_sub (V := step5 m d)) $$ [Hb Hheld]
  · isplitl [Hb]; · iexact Hb
    iexact Hheld
  iintro ⟨Hb, Hheld⟩
  rw [wp_ret]; imodintro
  iapply (wp_hlo_within 𝒱 (T d) none Set.univ (op := opList) (S := bufs) list_sub (V := step6 m d)) $$ [Hb Hheld]
  · isplitl [Hb]; · iexact Hb
    iexact Hheld
  iintro ⟨Hb, Hheld⟩
  rw [wp_ret]; imodintro
  -- the experts' call
  ihave Hst := (show (K (F := F)).tcSt EH d ((0 : Fin 1).val + 1) ⊢ iprop(owing d 1 ∗ R1) from Entails.of_eq hR1) $$ Hst
  icases Hst with ⟨HO, HR⟩
  iapply (wp_call m (expertCall (onDevices (step7 m)) (onDevices (step8 m)) (admOf m) 1 (tables_inRange m 0) (table_count m) (table_list m) (summedTo m)) d
    iprop(held (T d) bufs (step7 m d) ∗ owing d 1) iprop(held (T d) bufs (step8 m d) ∗ owing d 1)
    (call_state d (step7 m d) 1) (call_state d (step8 m d) 1))
  isplitr [Hb Hheld HO HG1]
  rotate_left
  · isplitl [Hb]; · iexact Hb
    isplitl [Hheld HO]
    · isplitl [Hheld] <;> iassumption
    isplitr; · iexact Hlv
    iexact HG1
  iintro ⟨Hb, Hheld, HO⟩
  -- the results
  iapply (wp_hlo_within 𝒱 (T d) none Set.univ (op := opResult) (S := bufs) result_sub (V := step8 m d)) $$ [Hb Hheld]
  · isplitl [Hb]; · iexact Hb
    iexact Hheld
  iintro ⟨Hb, Hheld⟩
  rw [wp_ret]; imodintro
  iapply (wp_hlo_within 𝒱 (T d) none Set.univ (op := opLoss) (S := bufs) loss_sub (V := step9 m d)) $$ [Hb Hheld]
  · isplitl [Hb]; · iexact Hb
    iexact Hheld
  iintro ⟨Hb, Hheld⟩
  rw [wp_ret]; imodintro; imodintro
  isplitl [HO HR]
  · iapply (Entails.of_eq hR1.symm)
    isplitl [HO] <;> iassumption
  isplitl [Hheld]; · iexact Hheld
  isplitl [Hb] <;> iassumption

/-! ## The run -/

/-- Every buffer that the program holds is at the last step's contents. -/
def fq (d : Dev nD) (s' : Phys nD τ sig (Elt F)) : Prop := ∀ b ∈ bufs, s'.mem.mem (d, b) = step10 m d b

theorem hfin (d : Dev nD) (s' : Phys nD τ sig (Elt F)) : iprop(FIN m d ∗ SI s') ⊢ (⌜fq m d s'⌝ : sProp 𝕄) := by
  refine (forall_intro fun b => pure_imp_intro fun hb => ?_).trans pure_forall.2
  have h : iprop(FIN m d ∗ SI s') ⊢ (iprop(SI s' ∗ (d, b) ↦{fullShare} step10 m d b) : sProp 𝕄) :=
    (sep_mono_left (bigSep_elim hb)).trans sep_comm.1
  exact h.trans (SI_pointsTo_agree.trans (Laws.pure_mono fun e => funext fun i => e i (Finset.mem_univ i)))

def QC : PUnit × MemSt nD τ sig (Elt F) → Prop := fun r => (∀ d : Dev nD, ∀ b ∈ bufs, r.2.mem (d, b) = step10 m d b) ∧ r.2.sem = fun _ => 0

/-- The program runs to its end from any launch memory, with every buffer at the last step's contents and every counter at zero. -/
theorem run_main : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := Pm m) (A := ∅) facts v₀
    (fun q hq => match q with | 0 => nomatch hq)
    (fun q _ => match q with | 0 => tileObl _ _ facts)
    (fun q _ => match q with | 0 => SparseCore.Cfg.VecSplit.of_plain (vecSplit _ _))
    m ρ main (G m) (FIN m) (u₀ m) (sep_elim_left.trans (hu₀ m)) (hmain m ρ) (fq m) (hfin m) (QC m) (fun _ h hz => ⟨h, hz⟩)

end Cert.Proof

end
-- ==== Proof.Frames.lean ====
/-
  The three frames: the arguments are kept and every counter ends at zero.
-/
module

public import proofs.«01_k».proof.Defs
public import proofs.«01_k».proof.Proof.Launch
public import proofs.«01_k».proof.Proof.Gen.Kernel
public import proofs.«01_k».proof.Proof.Gen.ReferenceIdeal.Run

@[expose] public section

set_option maxRecDepth 16384

noncomputable section

namespace Cert.Proof

open Cert.KernelIdeal Cert.KernelIdeal.Gen
open Idealize.ShloMosaic Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig (HIx 1) (Elt F) ℕ UU ℕ

/-! ## The arguments at the end -/

variable (m : (ℓ : Loc nD τ sig) → Buf (Elt F) ℓ) (c : Dev nD)

/-- A buffer that no operation writes ends as it was. -/
theorem step10_kept {r : Ref sig .tc}
    (h : r ∉ ({main_v0, main_v1_0, main_v1_1, main_v1_2, main_v1_3, main_v1_4, main_v1_5, main_v2, main_v3, main_v4, main_v5, main_v6, main_v7, main_v8, main_v9} : Finset (Ref sig .tc))) :
    step10 m c (Proc.devRef .tc r) = m (c, Proc.devRef .tc r) := by
  simp only [Finset.mem_insert, Finset.mem_singleton, not_or] at h
  obtain ⟨h0, a, b, e, f, g, k, h2, h3, h4, h5, h6, h7, h8, h9⟩ := h
  rw [step10_ne m c h9, step9_ne m c h8, step8_ne m c h7, step7_ne m c h6, step6_ne m c h5, step5_ne m c h4, step4_ne m c h3, step3_ne m c h2,
    step2_ne m c a b e f g k, step1_ne m c h0]

/-- An argument's buffer, at the end of a run, holds what the launch memory held. -/
theorem argument_kept [∀ e, Nonempty (Elt F e)] {r : PUnit × MemSt nD τ sig (Elt F)} (h : QC m r) {b : Ref sig .tc} (hb : Proc.devRef .tc b ∈ bufs)
    (hn : b ∉ ({main_v0, main_v1_0, main_v1_1, main_v1_2, main_v1_3, main_v1_4, main_v1_5, main_v2, main_v3, main_v4, main_v5, main_v6, main_v7, main_v8, main_v9} : Finset (Ref sig .tc))) :
    r.2.mem ((c.tc : Thread nD τ).loc b) = m ((c.tc : Thread nD τ).loc b) :=
  (h.1 c _ hb).trans (step10_kept m c hn)

/-- All five arguments end as they were. -/
theorem arguments_kept [∀ e, Nonempty (Elt F e)] {r : PUnit × MemSt nD τ sig (Elt F)} (h : QC m r) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) :=
  ⟨argument_kept m c h (by decide +kernel) (by decide), argument_kept m c h (by decide +kernel) (by decide), argument_kept m c h (by decide +kernel) (by decide),
    argument_kept m c h (by decide +kernel) (by decide), argument_kept m c h (by decide +kernel) (by decide)⟩

/-! ## The frames -/

/-- The kernel's frame, in the names of the printed program on the reals, whose text is the same. -/
def FrameOfText : Prop :=
  ∀ (m : (ℓ : Loc nD τ sig) → Buf (Elt Bits) ℓ) (g : Dev nD → PrngReg), True →
    θ_run (Cert.KernelIdeal.defs (F := Bits)) (Cert.KernelIdeal.threads (F := Bits)) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0)

/-- That frame, from the run. -/
theorem frameOfText : FrameOfText := fun m ρ _ =>
  (θ_run Cert.KernelIdeal.defs _ _).mono (fun _ h => ⟨fun c => arguments_kept m c h, h.2⟩) (run_main (F := Bits) m ρ)

/-- The two printed programs have the same text. -/
theorem same_text : Cert.quiescent_Kernel = FrameOfText := by sl_kernel_rfl

/-- The kernel runs to its end, keeps its arguments and leaves every counter at zero. -/
theorem frame_kernel : Cert.quiescent_Kernel := same_text.mpr frameOfText

/-- The kernel on the reals runs to its end, keeps its arguments and leaves every counter at zero. -/
theorem frame_ideal : Cert.quiescent_KernelIdeal := fun m ρ _ =>
  (θ_run Cert.KernelIdeal.defs _ _).mono (fun _ h => ⟨fun c => arguments_kept m c h, h.2⟩) (run_main (F := Ideal) m ρ)

/-- The reference runs to its end and keeps its arguments; it has no counter. -/
theorem frame_reference : Cert.quiescent_ReferenceIdeal := fun m ρ _ =>
  (θ_run Cert.ReferenceIdeal.defs _ _).mono (fun r h => ⟨fun c => (h c).2.2, sem_eq_zero_of_no_sems (by decide) r.2⟩) (Cert.ReferenceIdeal.Value.run (F := Ideal) m ρ)

end Cert.Proof

end
-- ==== Proof.SortTop.lean ====
/-
  The two greatest entries of a row, with their places: the sort that takes them is stable, so equal entries come in the
  order of their places, and the pair of places is determined by the row.
-/
module

public import proofs.«01_k».proof.Proof.Gen.KernelIdeal
public import proofs.«01_k».proof.Proof.Gen.KernelIdeal.Skeleton
public import Idealize.ShloMosaic.Lib.SortFacts
public import Idealize.ShloMosaic.Lib.Pointwise

@[expose] public section

set_option maxRecDepth 16384

noncomputable section

namespace Cert.Proof

open Cert.KernelIdeal Cert.KernelIdeal.Gen
open Idealize.ShloMosaic Idealize.ShloMosaic.TcCoe

/-- One entry of a row goes ahead of another: it is the greater, or it is equal and stands first. -/
def Ahead {n : ℕ} (p : Fin n → EReal) (b c : Fin n) : Prop := p c < p b ∨ (p b = p c ∧ b < c)

/-- Two places of a row are its first two: the first goes ahead of every other place, the second of every other
    place but the first. -/
structure TopTwo {n : ℕ} (p : Fin n → EReal) (i j : Fin n) : Prop where
  ne : j ≠ i
  first : ∀ e, e ≠ i → Ahead p i e
  second : ∀ e, e ≠ i → e ≠ j → Ahead p j e

/-- Of two places, not both go ahead of each other. -/
theorem Ahead.asymm {n : ℕ} {p : Fin n → EReal} {b c : Fin n} (h : Ahead p b c) (h' : Ahead p c b) : False := by
  rcases h with h | ⟨h, hl⟩ <;> rcases h' with h' | ⟨h', hl'⟩
  · exact lt_asymm h h'
  · exact absurd h' (ne_of_lt h)
  · exact absurd h (ne_of_lt h')
  · exact lt_asymm hl hl'

/-- A row has one pair of first two places. -/
theorem TopTwo.unique {n : ℕ} {p : Fin n → EReal} {i j i' j' : Fin n} (h : TopTwo p i j) (h' : TopTwo p i' j') :
    i = i' ∧ j = j' := by
  have hi : i = i' := by
    by_contra hne
    exact (h.first i' (Ne.symm hne)).asymm (h'.first i hne)
  subst hi
  refine ⟨rfl, ?_⟩
  by_contra hne
  exact (h.second j' h'.ne (Ne.symm hne)).asymm (h'.second j h.ne hne)

/-- The order in which a stable sort by a row's greatest entries compares two places. -/
def greater {n : ℕ} (p : Fin n → EReal) (b c : Fin n) : Bool := decide (p c < p b)

/-- Putting a place that stands before all of a sorted list into it leaves the list sorted, ties by place. -/
theorem pairwise_insert {n : ℕ} (p : Fin n → EReal) (a : Fin n) (l : List (Fin n)) (ha : ∀ b ∈ l, a < b)
    (hl : l.Pairwise (Ahead p)) : (insertBefore (greater p) a l).Pairwise (Ahead p) := by
  induction l with
  | nil => exact List.pairwise_singleton _ _
  | cons b l ih =>
    obtain ⟨hb, hl⟩ := List.pairwise_cons.mp hl
    have hab : a < b := ha b List.mem_cons_self
    have hal : ∀ c ∈ l, a < c := fun c hc => ha c (List.mem_cons_of_mem _ hc)
    unfold insertBefore
    by_cases h : p a < p b
    · rw [if_pos (by simpa [greater] using h)]
      refine List.pairwise_cons.mpr ⟨fun c hc => ?_, ih hal hl⟩
      rcases List.mem_cons.mp ((perm_insertBefore (greater p) a l).mem_iff.mp hc) with rfl | hc
      · exact .inl h
      · exact hb c hc
    · rw [if_neg (by simpa [greater] using h)]
      have hle : p b ≤ p a := not_lt.mp h
      refine List.pairwise_cons.mpr ⟨fun c hc => ?_, List.pairwise_cons.mpr ⟨hb, hl⟩⟩
      have hac : a < c := ha c hc
      have hca : p c ≤ p a := by
        rcases List.mem_cons.mp hc with rfl | hc
        · exact hle
        · rcases hb c hc with h' | ⟨h', -⟩
          · exact h'.le.trans hle
          · exact h'.symm.le.trans hle
      rcases hca.lt_or_eq with h' | h'
      · exact .inl h'
      · exact .inr ⟨h'.symm, hac⟩

/-- The stable sort of places in order is sorted, ties by place. -/
theorem pairwise_sort {n : ℕ} (p : Fin n → EReal) (l : List (Fin n)) (hl : l.Pairwise (· < ·)) :
    (stableSort (greater p) l).Pairwise (Ahead p) := by
  induction l with
  | nil => exact List.Pairwise.nil
  | cons a l ih =>
    obtain ⟨ha, hl⟩ := List.pairwise_cons.mp hl
    unfold stableSort
    exact pairwise_insert p a _ (fun b hb => ha b ((perm_stableSort (greater p) l).mem_iff.mp hb)) (ih hl)

/-- Of two places of the sorted row, the earlier holds the entry that goes ahead. -/
theorem sorted_ahead {n : ℕ} (p : Fin n → EReal) {i j : Fin n} (h : i < j) :
    Ahead p (sortedFrom (greater p) i) (sortedFrom (greater p) j) := by
  have H := pairwise_sort p (List.finRange n) (List.pairwise_lt_finRange n)
  exact List.pairwise_iff_get.mp H _ _ h

/-- The first two places of the sorted row are the row's first two. -/
theorem sorted_topTwo (p : Fin 64 → EReal) : TopTwo p (sortedFrom (greater p) 0) (sortedFrom (greater p) 1) := by
  refine ⟨fun h => absurd (sortedFrom_injective _ h) (by decide), fun e he => ?_, fun e he he' => ?_⟩
  · obtain ⟨k, rfl⟩ := sortedFrom_surjective (greater p) e
    refine sorted_ahead p (Fin.pos_iff_ne_zero.mpr fun h => he (by rw [h]))
  · obtain ⟨k, rfl⟩ := sortedFrom_surjective (greater p) e
    refine sorted_ahead p ?_
    have h0 : k ≠ 0 := fun h => he (by rw [h])
    have h1 : k ≠ 1 := fun h => he' (by rw [h])
    have h0 : k.val ≠ 0 := fun h => h0 (Fin.ext h)
    have h1 : k.val ≠ 1 := fun h => h1 (Fin.ext h)
    exact Fin.lt_def.mpr (by show 1 < k.val; omega)

/-- The place of a row that the sort by greatest entries puts at `k`. -/
def topAt (v : FVec Ideal S64x64 .f32) (n : Fin 64) (k : Fin 2) : Fin 64 :=
  sortedFrom (greater fun e => v (ix2 n e)) ⟨k.val, by omega⟩

/-- Along a row, the place is the second coordinate. -/
theorem along_row (n l k : Fin 64) : (ix2 n l : S64x64.Idx).along 1 k = ix2 n k := by
  funext d
  match d with
  | ⟨0, _⟩ => rfl
  | ⟨1, _⟩ => rfl

/-- The sort that takes the greatest of a row reads the row in the order of `greater`. -/
theorem sort_row (v : FVec Ideal S64x64 .f32) (n l : Fin 64) :
    sortedFrom (n := 64) (fun k k' => (FloatOps.cmpfTotal (F := Ideal) (φ := .f32) .gt
        (v ((ix2 n l : S64x64.Idx).along 1 k)) (v ((ix2 n l : S64x64.Idx).along 1 k')) == 1#1)) l
      = sortedFrom (greater fun e => v (ix2 n e)) l := by
  refine congrArg (fun b => sortedFrom b l) (funext fun k => funext fun k' => ?_)
  rw [along_row, along_row]
  show (BitVec.ofBool (decide (v (ix2 n k') < v (ix2 n k))) == 1#1) = decide _
  by_cases h : v (ix2 n k') < v (ix2 n k) <;> simp [h]

/-- A column of the first two, among all 64. -/
abbrev wide (k : Fin 2) : Fin 64 := ⟨k.val, by omega⟩

/-- The values the two greatest of every row are taken with. -/
theorem topK_value (v : FVec Ideal S64x64 .f32) (h : S64x64.Slices (fun _ => 0) (⟨2, ![64, 2]⟩ : Shape)) (n : Fin 64) (k : Fin 2) :
    (Host.topK (⟨2, ![64, 2]⟩ : Shape) 1 (FloatOps.cmpfTotal .gt) v h).1 (ix2 n k) = v (ix2 n (topAt v n k)) := by
  rw [← along_row n (wide k), topAt, ← sort_row v n (wide k)]
  unfold Host.topK
  pointwise
  rfl

/-- What a sort of two operands along the second axis puts at a place, of its second operand. -/
theorem sort2_snd {α β : Type} (cmp : α × β → α × β → BitVec 1) (x : S64x64.Idx → α) (y : S64x64.Idx → β) (j : S64x64.Idx) :
    (Host.sort2 S64x64 1 cmp x y).2 j = y (j.along 1 (sortedFrom (fun k k' =>
      cmp (x (j.along 1 k), y (j.along 1 k)) (x (j.along 1 k'), y (j.along 1 k')) == 1#1) (j 1))) := rfl

/-- The places the two greatest of every row are taken from. -/
theorem topK_place (v : FVec Ideal S64x64 .f32) (h : S64x64.Slices (fun _ => 0) (⟨2, ![64, 2]⟩ : Shape)) (n : Fin 64) (k : Fin 2) :
    (Host.topK (⟨2, ![64, 2]⟩ : Shape) 1 (FloatOps.cmpfTotal .gt) v h).2 (ix2 n k) = BitVec.ofNat 32 (topAt v n k).val := by
  have e : (Host.topK (⟨2, ![64, 2]⟩ : Shape) 1 (FloatOps.cmpfTotal .gt) v h).2 (ix2 n k)
      = (Host.sort2 S64x64 1 (fun l r => FloatOps.cmpfTotal .gt l.1 r.1) v (iotaInDim S64x64 32 1)).2 (ix2 n (wide k)) := by
    unfold Host.topK
    pointwise
    refine congrArg (fun y : IVec S64x64 32 => (Host.sort2 S64x64 1 (fun l r : EReal × BitVec 32 =>
      FloatOps.cmpfTotal (F := Ideal) (φ := .f32) .gt l.1 r.1) v y).2 (ix2 n (wide k))) (funext fun i => ?_)
    pointwise
  rw [e, sort2_snd]
  refine (congrArg (fun l => (iotaInDim S64x64 32 1 : IVec S64x64 32) ((ix2 n (wide k) : S64x64.Idx).along 1 l))
    (sort_row v n (wide k))).trans ?_
  rw [along_row]
  pointwise [topAt]

/-- The two places taken of a row are its first two. -/
theorem topAt_topTwo (v : FVec Ideal S64x64 .f32) (n : Fin 64) :
    TopTwo (fun e => v (ix2 n e)) (topAt v n 0) (topAt v n 1) := sorted_topTwo _

end Cert.Proof

end
-- ==== Proof.RouterValue.lean ====
/-
  The router's payloads, row by row: the probabilities, the two places chosen and the two values they are chosen by.
-/
module

public import proofs.«01_k».proof.Proof.Gen.KernelIdeal
public import proofs.«01_k».proof.Proof.Gen.KernelIdeal.Skeleton
public import proofs.«01_k».proof.Proof.SortTop
public import Idealize.ShloMosaic.Lib.SortNet.Extract
public import Idealize.ShloMosaic.Lib.Pointwise

@[expose] public section

set_option maxRecDepth 16384

noncomputable section

namespace Cert.Proof

open Cert.KernelIdeal Cert.KernelIdeal.Gen
open Idealize.ShloMosaic Idealize.ShloMosaic.TcCoe

/-- The bits the maxima start from denote the least value. -/
theorem least_bits : Ideal.ofBits .f32 0xFF800000#32 = ⊥ := by simp [Ideal.ofBits, Ideal.ieee]

/-- The bits that mask an entry already taken denote minus one. -/
theorem mask_bits : Ideal.ofBits .f32 0xBF800000#32 = ((-1 : ℝ) : EReal) := by
  simp [Ideal.ofBits, Ideal.ieee]
  rw [← EReal.coe_mul]
  norm_num

/-- The maximum of a row is its entry at a place that goes ahead of all the others. -/
theorem maximum_eq {n : ℕ} (r : Fin n → EReal) (k : Fin n) (h : ∀ e, e ≠ k → Ahead r k e) :
    Finset.fold max ⊥ r Finset.univ = r k := by
  refine le_antisymm ?_ ?_
  · refine (Finset.fold_max_le _).mpr ⟨bot_le, fun e _ => ?_⟩
    by_cases he : e = k
    · rw [he]
    · rcases h e he with h | ⟨h, -⟩
      · exact h.le
      · exact h.symm.le
  · exact (Finset.le_fold_max _).mpr (.inr ⟨k, Finset.mem_univ _, le_rfl⟩)

/-- The signed minimum of a family of words is one of them that no other is below. -/
theorem minimum_eq {n : ℕ} (f : Fin n → BitVec 32) (k : Fin n) (h : ∀ e, (f k).toInt ≤ (f e).toInt) :
    Finset.fold IntOp.minsi 2147483647#32 f Finset.univ = f k := by
  have hall : ∀ s : Finset (Fin n), (f k).toInt ≤ (Finset.fold IntOp.minsi 2147483647#32 f s).toInt
      ∧ (k ∈ s → Finset.fold IntOp.minsi 2147483647#32 f s = f k) := by
    intro s
    induction s using Finset.induction_on with
    | empty =>
      refine ⟨?_, fun h => absurd h (Finset.notMem_empty _)⟩
      have := BitVec.toInt_lt (x := f k)
      simp only [Finset.fold_empty]
      have e : (2147483647#32).toInt = 2147483647 := by decide
      omega
    | insert a s ha ih =>
      rw [Finset.fold_insert ha]
      obtain ⟨ih₁, ih₂⟩ := ih
      have hm : ∀ x y : BitVec 32, (IntOp.minsi x y).toInt = min x.toInt y.toInt := SortNet.toInt_minsi
      refine ⟨?_, fun hk => BitVec.eq_of_toInt_eq ?_⟩
      · rw [hm]
        exact le_min (h a) ih₁
      · rw [hm]
        rcases Finset.mem_insert.mp hk with rfl | hk
        · exact min_eq_left ih₁
        · rw [ih₂ hk]
          exact min_eq_right (h a)
  exact (hall Finset.univ).2 (Finset.mem_univ k)

/-- The least place at which a row takes its maximum is the place that goes ahead of all the others. -/
theorem place_eq (r : Fin 64 → EReal) (k : Fin 64) (h : ∀ e, e ≠ k → Ahead r k e) :
    Finset.fold IntOp.minsi 2147483647#32 (fun e => if r e = r k then BitVec.ofNat 32 e.val else 64#32) Finset.univ
      = BitVec.ofNat 32 k.val := by
  have small : ∀ e : Fin 64, (BitVec.ofNat 32 e.val).toInt = e.val := fun e => by
    have ht : (BitVec.ofNat 32 e.val).toNat = e.val := by
      rw [BitVec.toNat_ofNat, Nat.mod_eq_of_lt (by omega)]
    rw [BitVec.toInt_eq_toNat_of_lt (by rw [ht]; omega), ht]
  have big : (64#32 : BitVec 32).toInt = 64 := by decide
  have e := minimum_eq (fun e => if r e = r k then BitVec.ofNat 32 e.val else 64#32) k (fun e => ?_)
  · rw [e, if_pos rfl]
  · show (if r k = r k then BitVec.ofNat 32 k.val else 64#32).toInt ≤ (if r e = r k then BitVec.ofNat 32 e.val else 64#32).toInt
    rw [if_pos rfl, small]
    by_cases he : r e = r k
    · rw [if_pos he, small]
      by_cases hk : e = k
      · rw [hk]
      · rcases h e hk with h | ⟨-, h⟩
        · exact absurd he h.ne
        · exact_mod_cast h.le
    · rw [if_neg he, big]
      have := k.isLt
      omega

/-- A row's greatest probability, as the kernel takes it. -/
theorem first_value (x w : Vec Ideal S64x768 .f32) (n : Fin 64) :
    k0_pay5 x w (ix2 n 0) = k0_pay4 x w (ix2 n (topAt (k0_pay4 x w) n 0)) := by
  pointwise [k0_pay5]
  rw [least_bits]
  exact maximum_eq (fun e => k0_pay4 x w (ix2 n e)) _ (topAt_topTwo _ n).first

/-- The place of a row's greatest probability, as the kernel finds it. -/
theorem first_place (x w : Vec Ideal S64x768 .f32) (n : Fin 64) :
    k0_pay6 x w (ix2 n 0) = BitVec.ofNat 32 (topAt (k0_pay4 x w) n 0).val := by
  pointwise [k0_pay6]
  rw [first_value]
  exact place_eq (fun e => k0_pay4 x w (ix2 n e)) _ (topAt_topTwo _ n).first

/-- The row with its greatest entry masked, as the kernel makes it. -/
theorem masked_value (x w : Vec Ideal S64x768 .f32) (n e : Fin 64) :
    k0_pay7 x w (ix2 n e) = if e = topAt (k0_pay4 x w) n 0 then ((-1 : ℝ) : EReal) else k0_pay4 x w (ix2 n e) := by
  pointwise [k0_pay7]
  rw [first_place, mask_bits]
  show (if BitVec.ofBool (BitVec.ofNat 32 e.val == BitVec.ofNat 32 (topAt (k0_pay4 x w) n 0).val) = 1#1 then _ else _) = _
  by_cases h : e = topAt (k0_pay4 x w) n 0
  · rw [if_pos h, ← h]
    simp
  · rw [if_neg h, if_neg]
    intro hb
    have hb : BitVec.ofNat 32 e.val = BitVec.ofNat 32 (topAt (k0_pay4 x w) n 0).val := by
      by_contra hc
      have : (BitVec.ofNat 32 e.val == BitVec.ofNat 32 (topAt (k0_pay4 x w) n 0).val) = false := by simpa using hc
      rw [this] at hb
      exact absurd hb (by decide)
    have hb := congrArg BitVec.toNat hb
    rw [BitVec.toNat_ofNat, BitVec.toNat_ofNat, Nat.mod_eq_of_lt (by omega), Nat.mod_eq_of_lt (by omega)] at hb
    exact h (Fin.ext hb)

/-- The masked row's greatest entry and its place, as the kernel takes them. -/
theorem second_at (x w : Vec Ideal S64x768 .f32) (n k : Fin 64)
    (h : ∀ e, e ≠ k → Ahead (fun e => k0_pay7 x w (ix2 n e)) k e) :
    k0_pay8 x w (ix2 n 0) = k0_pay7 x w (ix2 n k) ∧ k0_pay9 x w (ix2 n 0) = BitVec.ofNat 32 k.val := by
  have h8 : k0_pay8 x w (ix2 n 0) = k0_pay7 x w (ix2 n k) := by
    pointwise [k0_pay8]
    rw [least_bits]
    exact maximum_eq (fun e => k0_pay7 x w (ix2 n e)) k h
  refine ⟨h8, ?_⟩
  pointwise [k0_pay9]
  rw [h8]
  exact place_eq (fun e => k0_pay7 x w (ix2 n e)) k h

/-- The exponential is nowhere negative. -/
theorem exp_nonneg (x : EReal) : 0 ≤ Ideal.exp x := by
  induction x using EReal.rec with
  | bot => exact le_rfl
  | coe r => exact EReal.coe_nonneg.mpr (Real.exp_pos r).le
  | top => exact le_top

/-- A row of probabilities is nowhere negative, or it is the least value throughout: the latter when the exponentials
    sum to zero. -/
theorem probs_cases (x w : Vec Ideal S64x768 .f32) (n : Fin 64) :
    (∀ e, 0 ≤ k0_pay4 x w (ix2 n e)) ∨ (∀ e, k0_pay4 x w (ix2 n e) = ⊥) := by
  have e : ∃ t : Fin 64 → EReal, (∀ e, 0 ≤ t e) ∧ ∀ e, k0_pay4 x w (ix2 n e) = Ideal.div (t e) (∑ e, t e) :=
    ⟨_, fun _ => exp_nonneg _, fun e => by pointwise [k0_pay4]; rfl⟩
  obtain ⟨t, ht, e⟩ := e
  by_cases hs : ∑ e, t e = 0
  · right
    intro j
    have hj : t j = 0 := (Finset.sum_eq_zero_iff_of_nonneg fun i _ => ht i).mp hs j (Finset.mem_univ j)
    rw [e, hs, hj]
    simp [Ideal.div]
  · left
    intro j
    rw [e, Ideal.div, if_neg hs]
    exact EReal.mul_nonneg (ht j) (EReal.inv_nonneg_of_nonneg (Finset.sum_nonneg fun i _ => ht i))

/-- Where a row of probabilities is nowhere negative, the kernel's second choice is the row's second greatest entry. -/
theorem second_regular (x w : Vec Ideal S64x768 .f32) (n : Fin 64) (hp : ∀ e, 0 ≤ k0_pay4 x w (ix2 n e)) :
    k0_pay8 x w (ix2 n 0) = k0_pay4 x w (ix2 n (topAt (k0_pay4 x w) n 1))
      ∧ k0_pay9 x w (ix2 n 0) = BitVec.ofNat 32 (topAt (k0_pay4 x w) n 1).val := by
  have ht := topAt_topTwo (k0_pay4 x w) n
  have neg : ((-1 : ℝ) : EReal) < 0 := by exact_mod_cast (by norm_num : (-1 : ℝ) < 0)
  have h := second_at x w n (topAt (k0_pay4 x w) n 1) (fun e he => by
    by_cases h0 : e = topAt (k0_pay4 x w) n 0
    · left
      show k0_pay7 x w (ix2 n e) < k0_pay7 x w (ix2 n _)
      rw [masked_value, masked_value, if_pos h0, if_neg ht.ne]
      exact lt_of_lt_of_le neg (hp _)
    · have := ht.second e h0 he
      unfold Ahead at this ⊢
      show k0_pay7 x w (ix2 n e) < k0_pay7 x w (ix2 n _) ∨ (k0_pay7 x w (ix2 n _) = k0_pay7 x w (ix2 n e) ∧ _)
      rw [masked_value, masked_value, if_neg h0, if_neg ht.ne]
      exact this)
  rw [masked_value, if_neg ht.ne] at h
  exact h

/-- Where a row of probabilities is the least value throughout, the kernel's second choice is the mask itself. -/
theorem second_irregular (x w : Vec Ideal S64x768 .f32) (n : Fin 64) (hp : ∀ e, k0_pay4 x w (ix2 n e) = ⊥) :
    k0_pay8 x w (ix2 n 0) = ((-1 : ℝ) : EReal)
      ∧ k0_pay9 x w (ix2 n 0) = BitVec.ofNat 32 (topAt (k0_pay4 x w) n 0).val := by
  have h := second_at x w n (topAt (k0_pay4 x w) n 0) (fun e he => by
    left
    show k0_pay7 x w (ix2 n e) < k0_pay7 x w (ix2 n _)
    rw [masked_value, masked_value, if_pos rfl, if_neg he, hp]
    exact EReal.bot_lt_coe _)
  rw [masked_value, if_pos rfl] at h
  exact h

/-- Both of the kernel's choices are experts. -/
theorem second_place (x w : Vec Ideal S64x768 .f32) (n : Fin 64) :
    ∃ k : Fin 64, k0_pay9 x w (ix2 n 0) = BitVec.ofNat 32 k.val := by
  rcases probs_cases x w n with hp | hp
  · exact ⟨_, (second_regular x w n hp).2⟩
  · exact ⟨_, (second_irregular x w n hp).2⟩

end Cert.Proof

end
-- ==== Proof.ExpertValue.lean ====
/-
  The experts' payloads, entry by entry: the result is the sum over the list's places of each expert's share of what it makes,
  and that sum is one over all the experts.
-/
module

public import proofs.«01_k».proof.Proof.ExpertCall
public import Idealize.ShloMosaic.Lib.Pointwise

@[expose] public section

set_option maxRecDepth 16384

noncomputable section

namespace Cert.Proof

open Cert.KernelIdeal Cert.KernelIdeal.Gen
open Idealize.ShloMosaic Idealize.ShloMosaic.TcCoe

/-- The share of a token's output that an expert makes: the weights of the token's choices that name the expert. -/
def shareOf (i0 i1 : Vec Ideal S64x1 .i32) (w0 w1 : Vec Ideal S64x1 .f32) (n : Fin 64) (e : BitVec 32) : EReal :=
  (if i0 (ix2 n 0) = e then w0 (ix2 n 0) else 0) + (if i1 (ix2 n 0) = e then w1 (ix2 n 0) else 0)

/-- What expert `e` makes of token `n`, at coordinate `d`. -/
def yield (x : Vec Ideal S64x768 .f32) (G U D : Vec Ideal S64x768x768 .f32) (n e : Fin 64) (d : Fin 768) : EReal :=
  ∑ h : Fin 768, ((∑ k : Fin 768, x (ix2 n k) * G (ix3 e h k)) * Ideal.logistic (∑ k : Fin 768, x (ix2 n k) * G (ix3 e h k))
    * ∑ k : Fin 768, x (ix2 n k) * U (ix3 e h k)) * D (ix3 e d h)

/-- The expert that a word names. -/
def named (e : BitVec 32) : Fin 64 := ⟨e.toNat % 64, Nat.mod_lt _ (by decide)⟩

/-- A block of one expert's matrix, entry by entry. -/
theorem expertBlock_at (M : Vec Ideal S64x768x768 .f32) (e : BitVec 32) (i j : Fin 768) :
    expertBlock M e (ix3 0 i j) = M (ix3 (named e) i j) := by
  unfold expertBlock
  congr 1
  funext a
  match a with
  | ⟨0, _⟩ => rfl
  | ⟨1, _⟩ => rfl
  | ⟨2, _⟩ => rfl

/-- A select on the equality of two words is a choice by their equality. -/
theorem select_eq_word {α : Type} (a b : BitVec 32) (u v : α) :
    Scalar.select (IntOp.cmpi .eq a b) u v = if a = b then u else v := by
  by_cases h : a = b
  · simp [Scalar.select, IntOp.cmpi, h]
  · have hb : (a == b) = false := beq_false_of_ne h
    rw [if_neg h]
    unfold Scalar.select IntOp.cmpi
    simp only [hb]
    rfl

/-- The expert's payload at an entry of the result: the entry before, and the expert's share of what it makes. -/
theorem addExpert_at (e : BitVec 32) (x : Vec Ideal S64x768 .f32) (i0 i1 : Vec Ideal S64x1 .i32) (w0 w1 : Vec Ideal S64x1 .f32)
    (G U D : Vec Ideal S64x768x768 .f32) (o : Vec Ideal S64x768 .f32) (n : Fin 64) (d : Fin 768) :
    addExpert e x i0 i1 w0 w1 (expertBlock G e) (expertBlock U e) (expertBlock D e) o (ix2 n d)
      = o (ix2 n d) + shareOf i0 i1 w0 w1 n e * yield x G U D n (named e) d := by
  unfold addExpert
  pointwise [k2_pay1, k2_pay3, k2_pay4, k2_pay5, k2_pay6]
  simp only [expertBlock_at, select_eq_word]
  rfl

/-- The sum after some places, entry by entry. -/
theorem summed_at (V : Contents Ideal) (a : (pcfgs (F := Ideal) 1).Adm) (c : Dev nD) (N : ℕ) (n : Fin 64) (d : Fin 768) :
    summed V a c N (ix2 n d) = ∑ t ∈ Finset.range N,
      shareOf (V c main_v1_1) (V c main_v1_2) (V c main_v1_3) (V c main_v1_4) n (expertAt (F := Ideal) (a.1 1) (place t))
        * yield (V c main_v0) (V c main_arg2) (V c main_arg3) (V c main_arg4) n (named (expertAt (F := Ideal) (a.1 1) (place t))) d := by
  induction N with
  | zero => unfold summed; pointwise [k2_pay2]; simp
  | succ N ih =>
    rw [Finset.sum_range_succ, ← ih]
    exact addExpert_at _ _ _ _ _ _ _ _ _ _ n d

/-- A sum over the places of the list is a sum over all experts, if an expert not chosen contributes nothing. -/
theorem sum_places (g : IVec S128 32) (f : Fin 64 → EReal) (L : ℕ → Fin 64)
    (hL : ∀ e : Fin 64, Chosen g e.val → L (rank g e.val) = e) (h0 : ∀ e : Fin 64, ¬ Chosen g e.val → f e = 0) :
    ∑ t ∈ Finset.range (rank g 64), f (L t) = ∑ e : Fin 64, f e := by
  have hinj : Set.InjOn (fun e : Fin 64 => rank g e.val) (Finset.univ.filter fun e : Fin 64 => Chosen g e.val) := by
    intro e he e' he' h
    have he := (Finset.mem_filter.mp (Finset.mem_coe.mp he)).2
    have he' := (Finset.mem_filter.mp (Finset.mem_coe.mp he')).2
    exact Fin.ext (below_inj (Chosen g) he he' h)
  have hsub : (Finset.univ.filter fun e : Fin 64 => Chosen g e.val).image (fun e => rank g e.val) ⊆ Finset.range (rank g 64) := by
    intro t ht
    obtain ⟨e, he, rfl⟩ := Finset.mem_image.mp ht
    exact Finset.mem_range.mpr (below_lt (Chosen g) e.isLt (Finset.mem_filter.mp he).2)
  have hcard : (Finset.univ.filter fun e : Fin 64 => Chosen g e.val).card = rank g 64 := by
    show _ = ∑ i ∈ Finset.range 64, if Chosen g i then 1 else 0
    rw [Finset.card_filter, Finset.sum_range]
  have himg : (Finset.univ.filter fun e : Fin 64 => Chosen g e.val).image (fun e => rank g e.val) = Finset.range (rank g 64) := by
    refine Finset.eq_of_subset_of_card_le hsub ?_
    rw [Finset.card_image_of_injOn hinj, hcard, Finset.card_range]
  rw [← himg, Finset.sum_image hinj, Finset.sum_filter]
  refine Finset.sum_congr rfl fun e _ => ?_
  by_cases h : Chosen g e.val
  · rw [if_pos h, hL e h]
  · rw [if_neg h, h0 e h]

end Cert.Proof

end
-- ==== Proof.Gate.lean ====
/-
  The shares of a token: the kernel's two masked weights are the reference's two greatest probabilities over their sum.
-/
module

public import proofs.«01_k».proof.Proof.RouterValue
public import proofs.«01_k».proof.Proof.ExpertValue
public import Idealize.ShloMosaic.Lib.Pointwise

@[expose] public section

set_option maxRecDepth 16384

noncomputable section

namespace Cert.Proof

open Cert.KernelIdeal Cert.KernelIdeal.Gen
open Idealize.ShloMosaic Idealize.ShloMosaic.TcCoe

variable (x w : Vec Ideal S64x768 .f32)

/-- The share that an expert has of a token, as the kernel weighs it. -/
def share (n : Fin 64) (e : BitVec 32) : EReal :=
  shareOf (k0_pay6 x w) (k0_pay9 x w) (k0_pay1 (k0_pay5 x w) (k0_pay10 x w)) (k0_pay2 (k0_pay8 x w) (k0_pay10 x w)) n e

/-- The share written by the two values and the two places chosen. -/
theorem share_eq (n : Fin 64) (e : BitVec 32) : share x w n e
    = (if k0_pay6 x w (ix2 n 0) = e then Ideal.div (k0_pay5 x w (ix2 n 0)) (k0_pay5 x w (ix2 n 0) + k0_pay8 x w (ix2 n 0)) else 0)
      + (if k0_pay9 x w (ix2 n 0) = e then Ideal.div (k0_pay8 x w (ix2 n 0)) (k0_pay5 x w (ix2 n 0) + k0_pay8 x w (ix2 n 0)) else 0) := by
  have h1 : k0_pay1 (k0_pay5 x w) (k0_pay10 x w) (ix2 n 0)
      = Ideal.div (k0_pay5 x w (ix2 n 0)) (k0_pay5 x w (ix2 n 0) + k0_pay8 x w (ix2 n 0)) := by pointwise [k0_pay1, k0_pay10]
  have h2 : k0_pay2 (k0_pay8 x w) (k0_pay10 x w) (ix2 n 0)
      = Ideal.div (k0_pay8 x w (ix2 n 0)) (k0_pay5 x w (ix2 n 0) + k0_pay8 x w (ix2 n 0)) := by pointwise [k0_pay2, k0_pay10]
  unfold share shareOf
  rw [h1, h2]

/-- An expert that is neither choice of a token has no share of it. -/
theorem share_zero (n : Fin 64) (e : BitVec 32) (h6 : k0_pay6 x w (ix2 n 0) ≠ e) (h9 : k0_pay9 x w (ix2 n 0) ≠ e) :
    share x w n e = 0 := by
  rw [share_eq, if_neg h6, if_neg h9, add_zero]

/-- A division by the least value is zero. -/
theorem div_least (y : EReal) : Ideal.div y ⊥ = 0 := by
  rw [Ideal.div, if_neg EReal.bot_ne_zero, EReal.inv_bot, mul_zero]

/-- The share that an expert has of a token, as the reference weighs it: the two greatest probabilities over their sum, each where
    its place is the expert's. -/
theorem share_top (n e : Fin 64) : share x w n (BitVec.ofNat 32 e.val)
    = ∑ k : Fin 2, Ideal.div (k0_pay4 x w (ix2 n (topAt (k0_pay4 x w) n k)))
        (∑ k : Fin 2, k0_pay4 x w (ix2 n (topAt (k0_pay4 x w) n k)))
      * (if BitVec.ofNat 32 (topAt (k0_pay4 x w) n k).val = BitVec.ofNat 32 e.val then 1 else 0) := by
  rw [share_eq, Fin.sum_univ_two, Fin.sum_univ_two, first_place, first_value]
  rcases probs_cases x w n with hp | hp
  · obtain ⟨h8, h9⟩ := second_regular x w n hp
    rw [h8, h9]
    simp only [mul_ite, mul_one, mul_zero]
  · obtain ⟨h8, h9⟩ := second_irregular x w n hp
    rw [h8, h9]
    simp only [hp, EReal.bot_add, div_least, ite_self, zero_mul, add_zero]

end Cert.Proof

end
-- ==== Proof.KernelValue.lean ====
/-
  What the kernel's run leaves before its two results are reshaped, as functions of the launch contents.
-/
module

public import proofs.«01_k».proof.Proof.Steps
public import proofs.«01_k».proof.Proof.Gate
public import Idealize.ShloMosaic.Lib.Pointwise

@[expose] public section

set_option maxRecDepth 16384

noncomputable section

namespace Cert.Proof

open Cert.KernelIdeal Cert.KernelIdeal.Gen
open Idealize.ShloMosaic Idealize.ShloMosaic.TcCoe

variable (m : (ℓ : Loc nD τ sig) → Buf (Elt Ideal) ℓ) (c : Dev nD)

/-- The tokens as rows, as the launch finds them. -/
abbrev tokensOf : Vec Ideal S64x768 .f32 := shapeCast S64x768 (m (c, Proc.devRef .tc main_arg0) : Vec Ideal S8x8x768 .f32) shapeCasts_S8x8x768_S64x768

/-- The router's matrix, as the launch finds it. -/
abbrev routerOf : Vec Ideal S64x768 .f32 := m (c, Proc.devRef .tc main_arg1)

/-- The rows the router reads are the tokens. -/
theorem step1_tokens : (step1 m c main_v0 : Vec Ideal S64x768 .f32) = tokensOf m c := StableHlo.reshape_result _ _ _ _ _ _ _

/-- The router reads the router's matrix as launched. -/
theorem step1_router : (step1 m c main_arg1 : Vec Ideal S64x768 .f32) = routerOf m c := step1_ne m c (by decide)

/-- A buffer that neither the list nor its count is kept in, after the list. -/
theorem step7_kept {r : Ref sig .tc} (h : r ∉ ({main_v2, main_v3, main_v4, main_v5, main_v6} : Finset (Ref sig .tc))) :
    step7 m c (Proc.devRef .tc r) = step2 m c (Proc.devRef .tc r) := by
  simp only [Finset.mem_insert, Finset.mem_singleton, not_or] at h
  obtain ⟨h2, h3, h4, h5, h6⟩ := h
  rw [step7_ne m c h6, step6_ne m c h5, step5_ne m c h4, step4_ne m c h3, step3_ne m c h2]

/-- The first choices that the experts' call reads. -/
theorem step7_first : (step7 m c main_v1_1 : Vec Ideal S64x1 .i32) = k0_pay6 (tokensOf m c) (routerOf m c) := by
  rw [step7_kept m c (by decide), ← step1_tokens, ← step1_router]
  exact (routedTo m c).first

/-- The second choices that the experts' call reads. -/
theorem step7_second : (step7 m c main_v1_2 : Vec Ideal S64x1 .i32) = k0_pay9 (tokensOf m c) (routerOf m c) := by
  rw [step7_kept m c (by decide), ← step1_tokens, ← step1_router]
  exact (routedTo m c).second

/-- The first choices' weights that the experts' call reads. -/
theorem step7_weight : (step7 m c main_v1_3 : Vec Ideal S64x1 .f32)
    = k0_pay1 (k0_pay5 (tokensOf m c) (routerOf m c)) (k0_pay10 (tokensOf m c) (routerOf m c)) := by
  rw [step7_kept m c (by decide), ← step1_tokens, ← step1_router]
  exact (routedTo m c).weight

/-- The second choices' weights that the experts' call reads. -/
theorem step7_weight' : (step7 m c main_v1_4 : Vec Ideal S64x1 .f32)
    = k0_pay2 (k0_pay8 (tokensOf m c) (routerOf m c)) (k0_pay10 (tokensOf m c) (routerOf m c)) := by
  rw [step7_kept m c (by decide), ← step1_tokens, ← step1_router]
  exact (routedTo m c).weight'

/-- The rows that the experts' call reads are the tokens. -/
theorem step7_tokens : (step7 m c main_v0 : Vec Ideal S64x768 .f32) = tokensOf m c := by
  rw [step7_kept m c (by decide), step2_ne m c (by decide) (by decide) (by decide) (by decide) (by decide) (by decide)]
  exact step1_tokens m c

/-- An argument is as launched when the experts' call reads it. -/
theorem step7_argument {r : Ref sig .tc} (h : r ∈ ({main_arg2, main_arg3, main_arg4} : Finset (Ref sig .tc))) :
    step7 m c (Proc.devRef .tc r) = m (c, Proc.devRef .tc r) := by
  have hk : ∀ r ∈ ({main_arg2, main_arg3, main_arg4} : Finset (Ref sig .tc)), r ∉ ({main_v2, main_v3, main_v4, main_v5, main_v6} : Finset (Ref sig .tc))
      ∧ r ≠ main_v0 ∧ r ≠ main_v1_0 ∧ r ≠ main_v1_1 ∧ r ≠ main_v1_2 ∧ r ≠ main_v1_3 ∧ r ≠ main_v1_4 ∧ r ≠ main_v1_5 := by decide
  obtain ⟨h7, h0, h1, h2, h3, h4, h5, h6⟩ := hk r h
  rw [step7_kept m c h7, step2_ne m c h1 h2 h3 h4 h5 h6, step1_ne m c h0]

/-- Word `n` of the list is token `n`'s first choice. -/
theorem word_first (n : Fin 64) : word (step3 m c main_v2 : IVec S128 32) n.val = k0_pay6 (tokensOf m c) (routerOf m c) (ix2 n 0) := by
  have h3 : (step3 m c main_v2 : IVec S128 32) = shapeCast S128 (step2 m c main_v1_0 : IVec S128x1 32) shapeCasts_S128x1_S128 :=
    StableHlo.reshape_result _ _ _ _ _ _ _
  have h2 : (step2 m c main_v1_0 : IVec S128x1 32) = routed (tokensOf m c) (routerOf m c) := by
    rw [← step1_tokens, ← step1_router]; exact (routedTo m c).words
  rw [word_mod _ _ (by omega), h3, h2]
  have e : at1 128 n.val (by omega) = ix1 (⟨n.val, by omega⟩ : Fin 128) := eq_ix1 _
  rw [e]
  pointwise
  exact routed_first _ _ _ (ix2 n 0) rfl

/-- Word `64 + n` of the list is token `n`'s second choice. -/
theorem word_second (n : Fin 64) : word (step3 m c main_v2 : IVec S128 32) (64 + n.val) = k0_pay9 (tokensOf m c) (routerOf m c) (ix2 n 0) := by
  have h3 : (step3 m c main_v2 : IVec S128 32) = shapeCast S128 (step2 m c main_v1_0 : IVec S128x1 32) shapeCasts_S128x1_S128 :=
    StableHlo.reshape_result _ _ _ _ _ _ _
  have h2 : (step2 m c main_v1_0 : IVec S128x1 32) = routed (tokensOf m c) (routerOf m c) := by
    rw [← step1_tokens, ← step1_router]; exact (routedTo m c).words
  rw [word_mod _ _ (by omega), h3, h2]
  have e : at1 128 (64 + n.val) (by omega) = ix1 (⟨64 + n.val, by omega⟩ : Fin 128) := eq_ix1 _
  rw [e]
  pointwise
  exact routed_second _ _ _ (ix2 n 0) rfl

/-- The word that is an expert's number names the expert. -/
theorem named_ofNat (e : Fin 64) : named (BitVec.ofNat 32 e.val) = e := by
  refine Fin.ext ?_
  show (BitVec.ofNat 32 e.val).toNat % 64 = e.val
  rw [BitVec.toNat_ofNat]; omega

/-- A word below 64 is the number of the expert it names. -/
theorem ofNat_named (e : BitVec 32) (h : e.toNat < 64) : BitVec.ofNat 32 (named e).val = e := by
  refine BitVec.eq_of_toNat_eq ?_
  show (BitVec.ofNat 32 (e.toNat % 64)).toNat = e.toNat
  rw [BitVec.toNat_ofNat]; omega

/-- A word among the list's that is an expert's number makes the expert chosen. -/
theorem chosen_of_word (g : IVec S128 32) (p : ℕ) (hp : p < 128) (e : Fin 64) (h : word g p = BitVec.ofNat 32 e.val) : Chosen g e.val :=
  ⟨p, hp, by rw [h, clampW_ofNat _ e.isLt, BitVec.toNat_ofNat]; omega⟩

/-- The experts' call leaves, for every token, the sum over all experts of the token's share of what the expert makes. -/
theorem kernel_output (n : Fin 64) (d : Fin 768) : @Eq EReal ((step8 m 0 main_v7 : Vec Ideal S64x768 .f32) (ix2 n d))
    (∑ e : Fin 64, share (tokensOf m 0) (routerOf m 0) n (BitVec.ofNat 32 e.val)
        * yield (tokensOf m 0) (m (0, Proc.devRef .tc main_arg2)) (m (0, Proc.devRef .tc main_arg3)) (m (0, Proc.devRef .tc main_arg4)) n e d) := by
  have hN : dynb2 (admOf m 1).1 0 = rank (step3 m 0 main_v2 : IVec S128 32) 64 := points_eq_rank m 0
  have hx := step7_tokens m 0
  have h1 := step7_first m 0
  have h2 := step7_second m 0
  have h3 := step7_weight m 0
  have h4 := step7_weight' m 0
  have h5 := step7_argument m 0 (r := main_arg2) (by decide)
  have h6 := step7_argument m 0 (r := main_arg3) (by decide)
  have h7 := step7_argument m 0 (r := main_arg4) (by decide)
  have hlist : ∀ t, expertAt (F := Ideal) ((admOf m 1).1 1) (place t) = dispatch (step3 m 0 main_v2) (at1 80 (place t).val ((place t).isLt.trans (by decide))) :=
    fun t => step7_list m 0 (fun | ⟨0, _⟩ => place t)
  have hlt : ∀ t, (expertAt (F := Ideal) ((admOf m 1).1 1) (place t)).toNat < 64 := fun t => by
    rw [hlist]; exact dispatch_lt _ _ (place t).isLt
  rw [step8_result, summed_at, hN]
  have hsum := sum_places (step3 m 0 main_v2) (fun e =>
      share (tokensOf m 0) (routerOf m 0) n (BitVec.ofNat 32 e.val)
        * yield (tokensOf m 0) (m (0, Proc.devRef .tc main_arg2)) (m (0, Proc.devRef .tc main_arg3)) (m (0, Proc.devRef .tc main_arg4)) n e d)
    (fun t => named (expertAt (F := Ideal) ((admOf m 1).1 1) (place t)))
    (fun e he => by
      have hr : rank (step3 m 0 main_v2 : IVec S128 32) e.val < 64 :=
        Nat.lt_of_lt_of_le (below_lt (Chosen (step3 m 0 main_v2)) e.isLt he) (rank_le _)
      show named (expertAt (F := Ideal) ((admOf m 1).1 1) (place _)) = e
      rw [hlist, dispatch_at _ he _ (by show _ = _ % 64; rw [Nat.mod_eq_of_lt hr]), named_ofNat])
    (fun e he => by
      show share _ _ _ _ * _ = 0
      rw [share_zero, zero_mul]
      · exact fun h => he (chosen_of_word _ n.val (by omega) e ((word_first m 0 n).trans h))
      · exact fun h => he (chosen_of_word _ (64 + n.val) (by omega) e ((word_second m 0 n).trans h)))
  refine Eq.trans (Finset.sum_congr rfl fun t _ => ?_) hsum
  show shareOf (step7 m 0 main_v1_1) (step7 m 0 main_v1_2) (step7 m 0 main_v1_3) (step7 m 0 main_v1_4) n _
    * yield (step7 m 0 main_v0) (step7 m 0 main_arg2) (step7 m 0 main_arg3) (step7 m 0 main_arg4) n _ d = _
  rw [h1, h2, h3, h4, hx, h5, h6, h7]
  show _ = share _ _ n (BitVec.ofNat 32 (named _).val) * _
  rw [ofNat_named _ (hlt t)]
  rfl

end Cert.Proof

end
-- ==== Proof.RefValue.lean ====
/-
  The reference's two results by their parts, and each part entry by entry.
-/
module

public import proofs.«01_k».proof.Proof.Gen.ReferenceIdeal
public import proofs.«01_k».proof.Proof.Gen.ReferenceIdeal.Run
public import Idealize.ShloMosaic.Lib.Pointwise

@[expose] public section

set_option maxRecDepth 16384

noncomputable section

namespace Cert.Proof

open Cert.ReferenceIdeal Cert.ReferenceIdeal.Gen
open Idealize.ShloMosaic Idealize.ShloMosaic.TcCoe

open Cert.ReferenceIdeal.Facts
variable [Cert.ReferenceIdeal.Facts]

/-- The reference's logits of the tokens against the experts' rows. -/
def refLogits (x : FVec Ideal S8x8x768 .f32) (w : FVec Ideal S64x768 .f32) : FVec Ideal S64x64 .f32 :=
  Host.dotGeneral dot_S64x768_S768x64_S64x64_1_0_0_1_n_n none (shapeCast S64x768 x shapeCasts_S8x8x768_S64x768)
    (transpose S768x64 [1, 0] w transposes_S64x768_S768x64_1_0)

/-- The reference's exponentials of the logits less their row's maximum. -/
def refExps (l : FVec Ideal S64x64 .f32) : FVec Ideal S64x64 .f32 :=
  Host.exp (subf l (broadcastInDim S64x64 ![0, 1] bcast_S64x1_S64x64_0_1 (broadcastInDim S64x1 ![0] bcast_S64_S64x1_0
    (maximumf (broadcastInDim S64 ![] bcast_S_S64 (constant S_ .f32 0xFF800000#32))
      (Host.reduce FloatOps.maximumf l (constant S_ .f32 0xFF800000#32) reducesTo_S64x64_S64_d1 h_S_)))))

/-- The reference's probabilities of the experts, token by token. -/
def refProbs (l : FVec Ideal S64x64 .f32) : FVec Ideal S64x64 .f32 :=
  Host.divf (refExps l) (broadcastInDim S64x64 ![0, 1] bcast_S64x1_S64x64_0_1 (broadcastInDim S64x1 ![0] bcast_S64_S64x1_0
    (Host.reduceAdd (refExps l) (constant S_ .f32 0x00000000#32) reducesTo_S64x64_S64_d1 h_S_)))

/-- The reference's two greatest probabilities of every token, with their places. -/
def refTop (p : FVec Ideal S64x64 .f32) : FVec Ideal S64x2 .f32 × IVec S64x2 32 :=
  Host.topK S64x2 1 (FloatOps.cmpfTotal .gt) p sliceFits_S64x64_S64x2

/-- The reference's shares: the two probabilities over their sum, spread over the experts by their places. -/
def refShares (v : FVec Ideal S64x2 .f32) (q : IVec S64x2 32) : FVec Ideal S64x64 .f32 :=
  Host.dotGeneral dot_S64x2_S64x2x64_S64x64_1_1_n_2_0_0 none
    (Host.divf v (broadcastInDim S64x2 ![0, 1] bcast_S64x1_S64x2_0_1 (broadcastInDim S64x1 ![0] bcast_S64_S64x1_0
      (Host.reduceAdd v (constant S_ .f32 0x00000000#32) reducesTo_S64x2_S64_d1 h_S_))))
    (uitofp .f32 (cmpi .eq (broadcastInDim S64x2x64 ![0, 1, 2] bcast_S64x2x1_S64x2x64_0_1_2
      (broadcastInDim S64x2x1 ![0, 1] bcast_S64x2_S64x2x1_0_1 q))
      (broadcastInDim S64x2x64 ![0, 1, 2] bcast_S1x1x64_S64x2x64_0_1_2 (iotaInDim S1x1x64 32 2))))

/-- What the reference's experts make of every token. -/
def refYields (x : FVec Ideal S64x768 .f32) (G U D : FVec Ideal S64x768x768 .f32) : FVec Ideal S64x64x768 .f32 :=
  transpose S64x64x768 [2, 0, 1] (Host.dotGeneral dot_S64x768x768_S64x64x768_S64x768x64_2_2_1_0_0_1 none D
    (mulf (mulf (Host.dotGeneral dot_S64x768_S64x768x768_S64x64x768_1_2_0_01_n_n none x G)
      (Host.divf (broadcastInDim S64x64x768 ![] bcast_S_S64x64x768 (constant S_ .f32 0x3F800000#32))
        (addf (broadcastInDim S64x64x768 ![] bcast_S_S64x64x768 (constant S_ .f32 0x3F800000#32))
          (Host.exp (Host.negf (Host.dotGeneral dot_S64x768_S64x768x768_S64x64x768_1_2_0_01_n_n none x G))))))
      (Host.dotGeneral dot_S64x768_S64x768x768_S64x64x768_1_2_0_01_n_n none x U))) transposes_S64x768x64_S64x64x768_2_0_1

/-- The reference's first result: what the experts make of every token, in their shares. -/
def refOutput (s : FVec Ideal S64x64 .f32) (y : FVec Ideal S64x64x768 .f32) : FVec Ideal S8x8x768 .f32 :=
  shapeCast S8x8x768 (Host.dotGeneral dot_S64x64_S64x64x768_S64x768_1_1_n_2_0_0 none s y) shapeCasts_S64x768_S8x8x768

/-- The reference's second result, from the probabilities and the places of the two greatest. -/
def refLoss (p : FVec Ideal S64x64 .f32) (q : IVec S64x2 32) : FVec Ideal S_ .f32 :=
  mulf (constant S_ .f32 0x42800000#32) (Host.reduceAdd (mulf
    (Host.divf (Host.reduceAdd (uitofp .f32 (cmpi .eq (broadcastInDim S64x64 ![0, 1] bcast_S64x1_S64x64_0_1
        (broadcastInDim S64x1 ![0] bcast_S64_S64x1_0 (shapeCast S64 (extractStridedSlice S64x1 ![0, 0] q slices_S64x2_S64x1_0_0)
          shapeCasts_S64x1_S64))) (broadcastInDim S64x64 ![0, 1] bcast_S1x64_S64x64_0_1 (iotaInDim S1x64 32 1))))
      (constant S_ .f32 0x00000000#32) reducesTo_S64x64_S64_d0 h_S_) (broadcastInDim S64 ![] bcast_S_S64 (constant S_ .f32 0x42800000#32)))
    (Host.divf (Host.reduceAdd p (constant S_ .f32 0x00000000#32) reducesTo_S64x64_S64_d0 h_S_)
      (broadcastInDim S64 ![] bcast_S_S64 (constant S_ .f32 0x42800000#32)))) (constant S_ .f32 0x00000000#32) reducesTo_S64_S_d0 h_S_)

/-- A logit is the product of a token's row and an expert's row. -/
theorem refLogits_at (x : FVec Ideal S8x8x768 .f32) (w : FVec Ideal S64x768 .f32) (n e : Fin 64) :
    refLogits x w (ix2 n e) = ∑ k : Fin 768, shapeCast S64x768 x shapeCasts_S8x8x768_S64x768 (ix2 n k) * w (ix2 e k) := by
  pointwise [refLogits]

/-- A probability is the exponential of a logit less its row's maximum, over the row's sum of such. -/
theorem refProbs_at (l : FVec Ideal S64x64 .f32) (n e : Fin 64) :
    refProbs l (ix2 n e) = Ideal.div (Ideal.exp (l (ix2 n e) - Finset.fold max (Ideal.ofBits .f32 0xFF800000#32) (fun e => l (ix2 n e)) Finset.univ))
      (∑ e', Ideal.exp (l (ix2 n e') - Finset.fold max (Ideal.ofBits .f32 0xFF800000#32) (fun e => l (ix2 n e)) Finset.univ)) := by
  have hm : ∀ f : Fin 64 → EReal, max (Ideal.ofBits .f32 0xFF800000#32) (Finset.fold max (Ideal.ofBits .f32 0xFF800000#32) f Finset.univ)
      = Finset.fold max (Ideal.ofBits .f32 0xFF800000#32) f Finset.univ := fun f =>
    max_eq_right ((Finset.le_fold_max _).mpr (.inl le_rfl))
  pointwise [refProbs, refExps]
  simp only [hm]

/-- The flag of an equality, as a number. -/
theorem flag_number (a b : BitVec 32) : (FloatOps.uitofp .f32 (IntOp.cmpi .eq a b) : Ideal .f32) = if a = b then (1 : EReal) else 0 := by
  show (((IntOp.cmpi .eq a b).toNat : ℝ) : EReal) = _
  by_cases h : a = b
  · simp [IntOp.cmpi, h]
  · have hb : (a == b) = false := beq_false_of_ne h
    simp [IntOp.cmpi, hb, h]

/-- A share is the sum of the token's two weights, each where its place is the expert's. -/
theorem refShares_at (v : FVec Ideal S64x2 .f32) (q : IVec S64x2 32) (n e : Fin 64) :
    refShares v q (ix2 n e) = ∑ k : Fin 2, Ideal.div (v (ix2 n k)) (∑ k : Fin 2, v (ix2 n k))
      * (if q (ix2 n k) = BitVec.ofNat 32 e.val then (1 : EReal) else 0) := by
  pointwise [refShares]
  simp only [flag_number]

/-- What the reference's expert makes of a token, at a coordinate. -/
theorem refYields_at (x : FVec Ideal S64x768 .f32) (G U D : FVec Ideal S64x768x768 .f32) (n e : Fin 64) (d : Fin 768) :
    refYields x G U D (ix3 n e d) = ∑ h : Fin 768, ((∑ k : Fin 768, x (ix2 n k) * G (ix3 e h k))
      * Ideal.logistic (∑ k : Fin 768, x (ix2 n k) * G (ix3 e h k)) * ∑ k : Fin 768, x (ix2 n k) * U (ix3 e h k)) * D (ix3 e d h) := by
  pointwise [refYields]
  exact Finset.sum_congr rfl fun h _ => mul_comm _ _

/-- An entry of the first result is the sum over the experts of the token's share of what each makes. -/
theorem refOutput_at (s : FVec Ideal S64x64 .f32) (y : FVec Ideal S64x64x768 .f32) (a b : Fin 8) (d : Fin 768) :
    refOutput s y (ix3 a b d) = ∑ e : Fin 64, s (ix2 ⟨a.val * 8 + b.val, by omega⟩ e) * y (ix3 ⟨a.val * 8 + b.val, by omega⟩ e d) := by
  pointwise [refOutput]

/-- The second result, from how often each expert is a first choice and its mean probability. -/
theorem refLoss_at (p : FVec Ideal S64x64 .f32) (q : IVec S64x2 32) :
    refLoss p q ix0 = Ideal.ofBits .f32 0x42800000#32 * ∑ e : Fin 64,
      Ideal.div (∑ n : Fin 64, if q (ix2 n 0) = BitVec.ofNat 32 e.val then (1 : EReal) else 0) (Ideal.ofBits .f32 0x42800000#32)
        * Ideal.div (∑ n : Fin 64, p (ix2 n e)) (Ideal.ofBits .f32 0x42800000#32) := by
  pointwise [refLoss]
  simp only [flag_number]

/-- The first result the reference's run leaves, by its parts. -/
theorem first_result (m : (ℓ : Loc nD τ sig) → Buf (Elt Ideal) ℓ) (c : Dev nD) : Cert.ReferenceIdeal.Value.res_main_v27 m c
    = refOutput (refShares (refTop (refProbs (refLogits (m ((c.tc : Thread nD τ).loc main_arg0)) (m ((c.tc : Thread nD τ).loc main_arg1))))).1
        (refTop (refProbs (refLogits (m ((c.tc : Thread nD τ).loc main_arg0)) (m ((c.tc : Thread nD τ).loc main_arg1))))).2)
      (refYields (shapeCast S64x768 (m ((c.tc : Thread nD τ).loc main_arg0)) shapeCasts_S8x8x768_S64x768) (m ((c.tc : Thread nD τ).loc main_arg2))
        (m ((c.tc : Thread nD τ).loc main_arg3)) (m ((c.tc : Thread nD τ).loc main_arg4))) := rfl

/-- The second result the reference's run leaves, by its parts. -/
theorem second_result (m : (ℓ : Loc nD τ sig) → Buf (Elt Ideal) ℓ) (c : Dev nD) : Cert.ReferenceIdeal.Value.res_main_v39 m c
    = refLoss (refProbs (refLogits (m ((c.tc : Thread nD τ).loc main_arg0)) (m ((c.tc : Thread nD τ).loc main_arg1))))
        (refTop (refProbs (refLogits (m ((c.tc : Thread nD τ).loc main_arg0)) (m ((c.tc : Thread nD τ).loc main_arg1))))).2 := rfl

end Cert.Proof

end
-- ==== Proof.Parts.lean ====
/-
  The reference's parts are the kernel's: the probabilities, the shares, the loss.
-/
module

public import proofs.«01_k».proof.Proof.Gate
public import proofs.«01_k».proof.Proof.RefValue
public import Idealize.ShloMosaic.Lib.Pointwise

@[expose] public section

set_option maxRecDepth 16384

noncomputable section

namespace Cert.Proof

open Cert.KernelIdeal Cert.KernelIdeal.Gen
open Idealize.ShloMosaic Idealize.ShloMosaic.TcCoe

variable [Cert.ReferenceIdeal.Facts]

/-- The flag of an equality widened and read as a signed number. -/
theorem flag_signed (a b : BitVec 32) :
    (FloatOps.sitofp .f32 (BitVec.setWidth 32 (IntOp.cmpi .eq a b)) : Ideal .f32) = if b = a then (1 : EReal) else 0 := by
  show (((BitVec.setWidth 32 (IntOp.cmpi .eq a b)).toInt : ℝ) : EReal) = _
  by_cases h : a = b
  · subst h
    simp [IntOp.cmpi]
  · have hb : (a == b) = false := beq_false_of_ne h
    simp [IntOp.cmpi, hb, Ne.symm h]

/-- The kernel's loss: how often each expert is a first choice, and its mean probability. -/
theorem kernelLoss_at (p : FVec Ideal S64x64 .f32) (i : IVec S64x1 32) :
    k0_pay3 p (iota .tc S64x64 32 [1] iota_S64x64_d1_w32) i (ix2 0 0) = Ideal.ofBits .f32 0x42800000#32 * ∑ e : Fin 64,
      Ideal.div (∑ n : Fin 64, if i (ix2 n 0) = BitVec.ofNat 32 e.val then (1 : EReal) else 0) (Ideal.ofBits .f32 0x42800000#32)
        * Ideal.div (∑ n : Fin 64, p (ix2 n e)) (Ideal.ofBits .f32 0x42800000#32) := by
  pointwise [k0_pay3]
  simp only [flag_signed, Finset.univ_unique, Finset.sum_singleton]
  exact mul_comm _ _

/-- The reference's probabilities are the kernel's. -/
theorem probs_eq (x : FVec Ideal Cert.ReferenceIdeal.S8x8x768 .f32) (w : FVec Ideal S64x768 .f32) :
    refProbs (refLogits x w) = k0_pay4 (shapeCast S64x768 x shapeCasts_S8x8x768_S64x768) w := by
  funext j
  obtain ⟨n, e, rfl⟩ : ∃ n e : Fin 64, j = ix2 n e := ⟨j 0, j 1, eq_ix2 j⟩
  rw [refProbs_at]
  simp only [refLogits_at]
  pointwise [k0_pay4]

/-- The reference's shares are the kernel's. -/
theorem shares_eq (x w : Vec Ideal S64x768 .f32) (n e : Fin 64) :
    refShares (refTop (k0_pay4 x w)).1 (refTop (k0_pay4 x w)).2 (ix2 n e) = share x w n (BitVec.ofNat 32 e.val) := by
  have hv : ∀ k : Fin 2, (refTop (k0_pay4 x w)).1 (ix2 n k) = k0_pay4 x w (ix2 n (topAt (k0_pay4 x w) n k)) := fun k => topK_value _ _ n k
  have hq : ∀ k : Fin 2, (refTop (k0_pay4 x w)).2 (ix2 n k) = BitVec.ofNat 32 (topAt (k0_pay4 x w) n k).val := fun k => topK_place _ _ n k
  rw [refShares_at, share_top]
  simp only [hv, hq]

/-- The reference's second result is the kernel's. -/
theorem loss_eq (x w : Vec Ideal S64x768 .f32) :
    refLoss (k0_pay4 x w) (refTop (k0_pay4 x w)).2 ix0
      = k0_pay3 (k0_pay4 x w) (iota .tc S64x64 32 [1] iota_S64x64_d1_w32) (k0_pay6 x w) (ix2 0 0) := by
  have hq : ∀ n : Fin 64, (refTop (k0_pay4 x w)).2 (ix2 n 0) = k0_pay6 x w (ix2 n 0) := fun n =>
    (topK_place _ _ n 0).trans (first_place x w n).symm
  rw [refLoss_at, kernelLoss_at]
  simp only [hq]

end Cert.Proof

end
-- ==== Proof.Equal.lean ====
/-
  The value claim: both results of the kernel are the reference's.
-/
module

public import proofs.«01_k».proof.Proof.KernelValue
public import proofs.«01_k».proof.Proof.Parts
public import proofs.«01_k».proof.Proof.Frames
public import Idealize.ShloMosaic.Lib.Pointwise

@[expose] public section

set_option maxRecDepth 16384

noncomputable section

namespace Cert.Proof

open Cert.KernelIdeal Cert.KernelIdeal.Gen
open Idealize.ShloMosaic Idealize.ShloMosaic.TcCoe

variable (m : (ℓ : Loc nD τ sig) → Buf (Elt Ideal) ℓ)

/-- The reference's first result of given arguments. -/
def firstOf [Cert.ReferenceIdeal.Facts] (x : FVec Ideal S8x8x768 .f32) (w : FVec Ideal S64x768 .f32) (G U D : FVec Ideal S64x768x768 .f32) :
    FVec Ideal S8x8x768 .f32 :=
  refOutput (refShares (refTop (refProbs (refLogits x w))).1 (refTop (refProbs (refLogits x w))).2)
    (refYields (shapeCast S64x768 x shapeCasts_S8x8x768_S64x768) G U D)

/-- The reference's second result of given arguments. -/
def secondOf [Cert.ReferenceIdeal.Facts] (x : FVec Ideal S8x8x768 .f32) (w : FVec Ideal S64x768 .f32) : FVec Ideal S_ .f32 :=
  refLoss (refProbs (refLogits x w)) (refTop (refProbs (refLogits x w))).2

variable [Cert.ReferenceIdeal.Facts]

/-- The kernel's first result is the reference's of the same arguments. -/
theorem first_eq : (step10 m 0 main_v8 : Vec Ideal S8x8x768 .f32)
    = firstOf (m (0, Proc.devRef .tc main_arg0)) (m (0, Proc.devRef .tc main_arg1)) (m (0, Proc.devRef .tc main_arg2))
        (m (0, Proc.devRef .tc main_arg3)) (m (0, Proc.devRef .tc main_arg4)) := by
  have h9 : (step9 m 0 main_v8 : Vec Ideal S8x8x768 .f32) = shapeCast S8x8x768 (step8 m 0 main_v7 : Vec Ideal S64x768 .f32) shapeCasts_S64x768_S8x8x768 :=
    StableHlo.reshape_result _ _ _ _ _ _ _
  rw [step10_ne m 0 (by decide), h9]
  funext j
  obtain ⟨a, b, d, rfl⟩ : ∃ (a b : Fin 8) (d : Fin 768), j = ix3 a b d := ⟨j 0, j 1, j 2, eq_ix3 j⟩
  unfold firstOf
  rw [refOutput_at, probs_eq]
  simp only [shares_eq, refYields_at]
  have hk := kernel_output m (⟨a.val * 8 + b.val, by omega⟩ : Fin 64) d
  refine Eq.trans ?_ hk
  generalize (step8 m 0 main_v7 : Vec Ideal S64x768 .f32) = y
  pointwise

/-- The kernel's second result is the reference's of the same arguments. -/
theorem second_eq : (step10 m 0 main_v9 : Vec Ideal S_ .f32)
    = secondOf (m (0, Proc.devRef .tc main_arg0)) (m (0, Proc.devRef .tc main_arg1)) := by
  have h10 : (step10 m 0 main_v9 : Vec Ideal S_ .f32) = shapeCast S_ (step9 m 0 main_v1_5 : Vec Ideal S1x1 .f32) shapeCasts_S1x1_S_ :=
    StableHlo.reshape_result _ _ _ _ _ _ _
  have h2 : (step2 m 0 main_v1_5 : Vec Ideal S1x1 .f32)
      = k0_pay3 (k0_pay4 (tokensOf m 0) (routerOf m 0)) (iota .tc S64x64 32 [1] iota_S64x64_d1_w32) (k0_pay6 (tokensOf m 0) (routerOf m 0)) := by
    rw [← step1_tokens, ← step1_router]; exact (routedTo m 0).loss
  rw [h10, step9_ne m 0 (by decide), step8_ne m 0 (by decide), step7_kept m 0 (by decide), h2]
  funext j
  obtain rfl : j = ix0 := funext fun a => a.elim0
  unfold secondOf
  rw [probs_eq]
  refine Eq.trans ?_ (loss_eq _ _).symm
  generalize k0_pay3 (F := Ideal) _ _ _ = y
  pointwise

/-- The kernel on the reals and the reference, launched with the same arguments, leave the same two results. -/
theorem same_results : Cert.algebraic_KernelIdeal_ReferenceIdeal := by
  intro m ρ m' ρ' _ hargs
  refine ⟨fun c => step10 m c main_v8, fun c => step10 m c main_v9, ?_, ?_⟩
  · exact (θ_run Cert.KernelIdeal.defs _ _).mono (fun _ h c => ⟨h.1 c (Proc.devRef .tc main_v8) (by decide +kernel), h.1 c (Proc.devRef .tc main_v9) (by decide +kernel), arguments_kept m c h⟩)
      (run_main (F := Ideal) m ρ)
  · refine (θ_run Cert.ReferenceIdeal.defs _ _).mono (fun r h c => ?_) (Cert.ReferenceIdeal.Value.run (F := Ideal) m' ρ')
    obtain ⟨h0, h1, hrest⟩ := h c
    obtain rfl : c = 0 := Subsingleton.elim (α := Fin 1) c 0
    obtain ⟨e0, e1, e2, e3, e4⟩ := hargs 0
    refine ⟨h0.trans ((first_result m' 0).trans ?_), h1.trans ((second_result m' 0).trans ?_), hrest⟩
    · rw [e0, e1, e2, e3, e4]
      exact (first_eq m).symm
    · rw [e0, e1]
      exact (second_eq m).symm

end Cert.Proof

end
-- ==== Proof.lean ====
/- The certificate's claims: the three frames, that the idealization preserves the kernel, and that the kernel computes what the reference does. -/
module

public import proofs.«01_k».proof.Defs
public import proofs.«01_k».proof.Proof.Frames
public import proofs.«01_k».proof.Proof.Equal

@[expose] public section

noncomputable section

namespace Cert.Proof

/-- Everything that the certificate claims. -/
theorem claim : Cert.Claim :=
  ⟨Cert.Kernel.Gen.facts, Cert.KernelIdeal.Gen.facts, Cert.ReferenceIdeal.Gen.facts, frame_kernel, frame_ideal, frame_reference, trivial, same_results⟩

end Cert.Proof

end
